-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8388608x8 : Shape := ⟨2, ![8388608, 8]⟩
abbrev S8388608x1 : Shape := ⟨2, ![8388608, 1]⟩
abbrev S8192x8x128 : Shape := ⟨3, ![8192, 8, 128]⟩
abbrev S1x1 : Shape := ⟨2, ![1, 1]⟩
abbrev S16x128x8x128 : Shape := ⟨4, ![16, 128, 8, 128]⟩
abbrev S16 : Shape := ⟨1, ![16]⟩
abbrev S1 : Shape := ⟨1, ![1]⟩
abbrev S_ : Shape := ⟨0, ![]⟩
abbrev S1x128x8x128 : Shape := ⟨4, ![1, 128, 8, 128]⟩
abbrev S128x8x128 : Shape := ⟨3, ![128, 8, 128]⟩
abbrev S8x128 : Shape := ⟨2, ![8, 128]⟩
abbrev S128 : Shape := ⟨1, ![128]⟩
abbrev S1x128 : Shape := ⟨2, ![1, 128]⟩

abbrev nBuf : Space → Nat
  | .hbm => 9
  | .vmem => 4
  | .smem => 0
  | _ => 0

abbrev bufTy : (tb : Table) → Fin (tcTables nBuf tb) → BufTy
  | .hbm, ⟨0, _⟩ => ⟨S8388608x8, .f32⟩
  | .hbm, ⟨1, _⟩ => ⟨S8388608x1, .f32⟩
  | .hbm, ⟨2, _⟩ => ⟨S8388608x1, .i32⟩
  | .hbm, ⟨3, _⟩ => ⟨S8388608x1, .i32⟩
  | .hbm, ⟨4, _⟩ => ⟨S8192x8x128, .f32⟩
  | .hbm, ⟨5, _⟩ => ⟨S8192x8x128, .i32⟩
  | .hbm, ⟨6, _⟩ => ⟨S8192x8x128, .i32⟩
  | .hbm, ⟨7, _⟩ => ⟨S1x1, .f32⟩
  | .hbm, ⟨8, _⟩ => ⟨S_, .f32⟩
  | .local _ .vmem, ⟨0, _⟩ => ⟨S1x1, .f32⟩
  | .local _ .vmem, ⟨1, _⟩ => ⟨S16x128x8x128, .f32⟩
  | .local _ .vmem, ⟨2, _⟩ => ⟨S16x128x8x128, .i32⟩
  | .local _ .vmem, ⟨3, _⟩ => ⟨S16x128x8x128, .i32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8388608x8 : Shape := ⟨2, ![8388608, 8]⟩
abbrev S8388608x1 : Shape := ⟨2, ![8388608, 1]⟩
abbrev S4x3 : Shape := ⟨2, ![4, 3]⟩
abbrev S_ : Shape := ⟨0, ![]⟩
abbrev S1 : Shape := ⟨1, ![1]⟩
abbrev S3 : Shape := ⟨1, ![3]⟩
abbrev S4 : Shape := ⟨1, ![4]⟩

abbrev nBuf : Space → Nat
  | .hbm => 85
  | .vmem => 0
  | .smem => 0
  | _ => 0

abbrev bufTy : (tb : Table) → Fin (tcTables nBuf tb) → BufTy
  | .hbm, ⟨0, _⟩ => ⟨S8388608x8, .f32⟩
  | .hbm, ⟨1, _⟩ => ⟨S8388608x1, .f32⟩
  | .hbm, ⟨2, _⟩ => ⟨S8388608x1, .i32⟩
  | .hbm, ⟨3, _⟩ => ⟨S8388608x1, .i32⟩
  | .hbm, ⟨4, _⟩ => ⟨S4x3, .f32⟩
  | .hbm, ⟨5, _⟩ => ⟨S8388608x1, .f32⟩
  | .hbm, ⟨6, _⟩ => ⟨S8388608x1, .f32⟩
  | .hbm, ⟨7, _⟩ => ⟨S_, .f32⟩
  | .hbm, ⟨8, _⟩ => ⟨S8388608x1, .f32⟩
  | .hbm, ⟨9, _⟩ => ⟨S8388608x1, .f32⟩
  | .hbm, ⟨10, _⟩ => ⟨S_, .f32⟩
  | .hbm, ⟨11, _⟩ => ⟨S8388608x1, .f32⟩
  | .hbm, ⟨12, _⟩ => ⟨S8388608x1, .f32⟩
  | .hbm, ⟨13, _⟩ => ⟨S_, .i32⟩
  | .hbm, ⟨14, _⟩ => ⟨S8388608x1, .i32⟩
  | .hbm, ⟨15, _⟩ => ⟨S8388608x1, .i1⟩
  | .hbm, ⟨16, _⟩ => ⟨S8388608x1, .f32⟩
  | .hbm, ⟨17, _⟩ => ⟨S8388608x1, .i1⟩
  | .hbm, ⟨18, _⟩ => ⟨S_, .i32⟩
  | .hbm, ⟨19, _⟩ => ⟨S8388608x1, .i32⟩
  | .hbm, ⟨20, _⟩ => ⟨S8388608x1, .i1⟩
  | .hbm, ⟨21, _⟩ => ⟨S8388608x1, .i1⟩
  | .hbm, ⟨22, _⟩ => ⟨S8388608x1, .i1⟩
  | .hbm, ⟨23, _⟩ => ⟨S8388608x1, .i32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S8388608x1, .i1⟩
  | .hbm, ⟨28, _⟩ => ⟨S8388608x1, .i1⟩
  | .hbm, ⟨29, _⟩ => ⟨S8388608x1, .i1⟩
  | .hbm, ⟨30, _⟩ => ⟨S8388608x1, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S8388608x1, .i1⟩
  | .hbm, ⟨35, _⟩ => ⟨S8388608x1, .i1⟩
  | .hbm, ⟨36, _⟩ => ⟨S8388608x1, .i1⟩
  | .hbm, ⟨37, _⟩ => ⟨S8388608x1, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S8388608x1, .i1⟩
  | .hbm, ⟨42, _⟩ => ⟨S8388608x1, .i1⟩
  | .hbm, ⟨43, _⟩ => ⟨S8388608x1, .i1⟩
  | .hbm, ⟨44, _⟩ => ⟨S8388608x1, .i1⟩
  | .hbm, ⟨45, _⟩ => ⟨S8388608x1, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S1, .f32⟩
  | .hbm, ⟨71, _⟩ => ⟨S1, .f32⟩
  | .hbm, ⟨72, _⟩ => ⟨S3, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_call0_v0 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call2_cst : Ref sig .tc := ⟨.hbm, 77, rfl⟩
abbrev main_call2_v0 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Proof.Loop.lean ====
module

public import proofs.«01_k».proof.Proof.Gen.Kernel.Points

/-!
# The kernel's body as a loop

The printed body is a straight line of 64 steps over a ring of 16 slots.  Here it is written as three
loops — the 16 first copies, the 48 steps that start a copy 16 blocks ahead, the last 16 steps — over
one block index, and the printed body is shown to be that loop.
-/

@[expose] public section

noncomputable section

namespace Cert.Kernel.Loop

open Idealize.ShloMosaic Idealize.ShloMosaic.TcCoe
open Idealize.SL Idealize.SL.Sem
open Cert.Kernel Cert.Kernel.Gen

variable {F : FTy → Type} [FloatOps F]

/-- Slot `j` of the semaphore array lies inside it. -/
theorem inb_sem (j : ℕ) : ∀ a, (![j % 16] : Fin 1 → ℕ) a + S1.size a ≤ S16.size a := by
  have := Nat.mod_lt j (show 0 < 16 by decide)
  intro a; fin_cases a; simp [Shape.size]; omega

/-- Slot `j` of a staging ring lies inside it. -/
theorem inb_slot (j : ℕ) : ∀ a, (![j % 16, 0, 0, 0] : Fin 4 → ℕ) a + S1x128x8x128.size a ≤ S16x128x8x128.size a := by
  have := Nat.mod_lt j (show 0 < 16 by decide)
  intro a; fin_cases a <;> simp [Shape.size] <;> omega

/-- Block `k` of an operand lies inside it. -/
theorem inb_src (k : ℕ) : ∀ a, (![128 * (k % 64), 0, 0] : Fin 3 → ℕ) a + S128x8x128.size a ≤ S8192x8x128.size a := by
  have := Nat.mod_lt k (show 0 < 64 by decide)
  intro a; fin_cases a <;> simp [Shape.size] <;> omega

/-- The semaphore of slot `j`. -/
abbrev semAt (sems : DmaSems sig S16) (j : ℕ) : DmaSem sig :=
  ((sems.slice (Rect.unit (s := S16) ![j % 16] S1.size (inb_sem j))).squeeze S_ squeezes_S1_S_).sem

/-- Slot `j` of a ring, as the copies name it. -/
abbrev slotAt {e : EltTy} (buf : Memref sig .tc .vmem S16x128x8x128 e) (j : ℕ) : Memref sig .tc .vmem S128x8x128 e :=
  (buf.slice (Rect.unit (s := S16x128x8x128) ![j % 16, 0, 0, 0] S1x128x8x128.size (inb_slot j)) (fun _ => rfl)).squeeze
    S128x8x128 squeezes_S1x128x8x128_S128x8x128

/-- Block `k` of an operand. -/
abbrev srcAt {e : EltTy} (x : Memref sig .tc .hbm S8192x8x128 e) (k : ℕ) : Memref sig .tc .hbm S128x8x128 e :=
  x.slice (Rect.unit (s := S8192x8x128) ![128 * (k % 64), 0, 0] S128x8x128.size (inb_src k)) (fun _ => rfl)

/-- The index of slot `j` in a load of the ring. -/
abbrev slotRect (j : ℕ) : Rect S16x128x8x128 :=
  Rect.unit (s := S16x128x8x128) ![j % 16, 0, 0, 0] S1x128x8x128.size (inb_slot j)

variable (a0 : Memref sig .tc .hbm S8192x8x128 .f32) (a1 a2 : Memref sig .tc .hbm S8192x8x128 .i32)
  (o : Memref sig .tc .vmem S1x1 .f32)
  (b0 : Memref sig .tc .vmem S16x128x8x128 .f32) (b1 b2 : Memref sig .tc .vmem S16x128x8x128 .i32)
  (q0 q1 q2 : DmaSems sig S16)

/-- Start the copies of block `k` into slot `k % 16`. -/
def starts (k : ℕ) : Prog (TpuEff nD τ sig (Elt F) Λ₀ .tc) PUnit := do
  Prog.lift (.enqueueDma (srcAt a0 k) (.here (slotAt b0 k)) (.dma (semAt q0 k)) (View.wordExact_bits rfl) ((View.wordExact_bits rfl).reshape _ _) ⟨Or.inl rfl, trivial⟩)
  Prog.lift (.enqueueDma (srcAt a1 k) (.here (slotAt b1 k)) (.dma (semAt q1 k)) (View.wordExact_bits rfl) ((View.wordExact_bits rfl).reshape _ _) ⟨Or.inl rfl, trivial⟩)
  Prog.lift (.enqueueDma (srcAt a2 k) (.here (slotAt b2 k)) (.dma (semAt q2 k)) (View.wordExact_bits rfl) ((View.wordExact_bits rfl).reshape _ _) ⟨Or.inl rfl, trivial⟩)

/-- Wait for the copies of block `k`. -/
def waits (k : ℕ) : Prog (TpuEff nD τ sig (Elt F) Λ₀ .tc) PUnit := do
  Prog.lift (.waitDma2 (semAt q0 k) (srcAt a0 k) (slotAt b0 k) (View.wordExact_bits rfl) ((View.wordExact_bits rfl).reshape _ _))
  Prog.lift (.waitDma2 (semAt q1 k) (srcAt a1 k) (slotAt b1 k) (View.wordExact_bits rfl) ((View.wordExact_bits rfl).reshape _ _))
  Prog.lift (.waitDma2 (semAt q2 k) (srcAt a2 k) (slotAt b2 k) (View.wordExact_bits rfl) ((View.wordExact_bits rfl).reshape _ _))

/-- The four running totals. -/
structure Acc (F : FTy → Type) where
  pos : FVec F S8x128 .f32
  posNeg : FVec F S8x128 .f32
  hit : FVec F S8x128 .f32
  hitNeg : FVec F S8x128 .f32

/-- A constant tile. -/
abbrev tile (b : BitVec 32) : FVec F S128x8x128 .f32 := broadcast S128x8x128 (Scalar.ofBits .f32 b)

/-- Where the label is one: one, elsewhere zero. -/
def posTile (y : IVec S128x8x128 32) : FVec F S128x8x128 .f32 :=
  select (cmpi .eq y (broadcast S128x8x128 1#32)) (tile 0x3F800000#32) (tile 0x00000000#32)

/-- Where the label is one and equals the logistic function of the output: one, elsewhere zero. -/
def hitTile (x : FVec F S128x8x128 .f32) (y : IVec S128x8x128 32) : FVec F S128x8x128 .f32 :=
  select (cmpf .oeq (sitofp .f32 y) (logistic x)) (posTile y) (tile 0x00000000#32)

/-- A tile kept where the sensitive attribute is zero. -/
def negPart (s : IVec S128x8x128 32) (v : FVec F S128x8x128 .f32) : FVec F S128x8x128 .f32 :=
  select (cmpi .eq s (broadcast S128x8x128 0#32)) v (tile 0x00000000#32)

/-- A running total with a tile's sum over its first axis added. -/
def addTile (a : FVec F S8x128 .f32) (v : FVec F S128x8x128 .f32) : FVec F S8x128 .f32 :=
  addf a (multiReduction .add [0] S8x128 v 0x00000000#32 reduces_S128x8x128_S8x128 (.inl rfl) rfl)

/-- The totals at the start. -/
def acc0 : Acc F :=
  let z : FVec F S8x128 .f32 := broadcast S8x128 (Scalar.ofBits .f32 0x00000000#32)
  ⟨z, z, z, z⟩

/-- The totals after one block whose three tiles are `x`, `s`, `y`. -/
def addBlock (a : Acc F) (x : FVec F S128x8x128 .f32) (s y : IVec S128x8x128 32) : Acc F :=
  ⟨addTile a.pos (posTile y), addTile a.posNeg (negPart s (posTile y)), addTile a.hit (hitTile x y),
    addTile a.hitNeg (negPart s (hitTile x y))⟩

/-- A slot as loaded, without its leading axis of one. -/
abbrev untile {e : EltTy} (v : Vec F S1x128x8x128 e) : Vec F S128x8x128 e :=
  shapeCast S128x8x128 v shapeCasts_S1x128x8x128_S128x8x128

/-- The totals after one block whose three slots as loaded are `x`, `s`, `y`. -/
def accStep (a : Acc F) (x : Vec F S1x128x8x128 .f32) (s y : Vec F S1x128x8x128 .i32) : Acc F :=
  addBlock a (untile x) (untile s) (untile y)

/-- Read slot `k % 16` of the rings and add the block to the totals. -/
def consume (k : ℕ) (a : Acc F) : Prog (TpuEff nD τ sig (Elt F) Λ₀ .tc) (Acc F) := do
  let x ← Prog.lift (.load b0 (slotRect k).toLoadRect (View.loadsAt_vmem h_S1x128x8x128))
  let s ← Prog.lift (.load b1 (slotRect k).toLoadRect (View.loadsAt_vmem h_S1x128x8x128))
  let y ← Prog.lift (.load b2 (slotRect k).toLoadRect (View.loadsAt_vmem h_S1x128x8x128))
  pure (accStep a x s y)

/-- The first copies: the last `n` of the sixteen. -/
def prologue : ℕ → Prog (TpuEff nD τ sig (Elt F) Λ₀ .tc) PUnit
  | 0 => pure ⟨⟩
  | n + 1 => do
    starts a0 a1 a2 b0 b1 b2 q0 q1 q2 (15 - n)
    prologue n

/-- The last sixteen steps: the last `n` of them. -/
def drain : ℕ → Acc F → Prog (TpuEff nD τ sig (Elt F) Λ₀ .tc) (Acc F)
  | 0, a => pure a
  | n + 1, a => do
    waits a0 a1 a2 b0 b1 b2 q0 q1 q2 (63 - n)
    let a ← consume b0 b1 b2 (63 - n) a
    drain n a

/-- The first forty-eight steps: the last `n` of them. -/
def stream : ℕ → Acc F → Prog (TpuEff nD τ sig (Elt F) Λ₀ .tc) (Acc F)
  | 0, a => pure a
  | n + 1, a => do
    waits a0 a1 a2 b0 b1 b2 q0 q1 q2 (47 - n)
    let a ← consume b0 b1 b2 (47 - n) a
    starts a0 a1 a2 b0 b1 b2 q0 q1 q2 (63 - n)
    stream n a

/-- A total over the 8 by 128 lanes, as the printed body takes it. -/
def total (v : FVec F S8x128 .f32) : FVec F S1x1 .f32 :=
  shapeCast S1x1 (multiReduction .add [1] S1 (shapeCast S1x128 (multiReduction .add [0] S128 v 0x00000000#32
    reduces_S8x128_S128 (.inl rfl) rfl) shapeCasts_S128_S1x128) 0x00000000#32 reduces_S1x128_S1 (.inl rfl) rfl) shapeCasts_S1_S1x1

/-- The number the printed body makes out of four totals: the squared gaps of the two rates. -/
def finish (s1 s2 s3 s4 : FVec F S1x1 .f32) : FVec F S1x1 .f32 :=
  let z : FVec F S1x1 .f32 := broadcast S1x1 (Scalar.ofBits .f32 0x00000000#32)
  let one : FVec F S1x1 .f32 := broadcast S1x1 (Scalar.ofBits .f32 0x3F800000#32)
  let rate (h n : FVec F S1x1 .f32) : FVec F S1x1 .f32 := select (cmpf .oeq n z) z (divf h (maximumf n one))
  let d := subf (rate (subf s3 s4) (subf s1 s2)) (rate s4 s2)
  let g := maximumf d z
  let g' := maximumf (subf z d) z
  addf (addf (addf (mulf g g) (mulf g' g')) (mulf g g)) (mulf g' g')

/-- The value the body stores, out of the totals. -/
def outVal (a : Acc F) : FVec F S1x1 .f32 := finish (total a.pos) (total a.posNeg) (total a.hit) (total a.hitNeg)

/-- Store the result. -/
def storeOut (a : Acc F) : Prog (TpuEff nD τ sig (Elt F) Λ₀ .tc) PUnit := do
  let _ : Vec F S1x1 .f32 ← Prog.lift (.load o (Rect.unit (s := S1x1) ![0, 0] S1x1.size inb_S1x1_S1x1_0_0).toLoadRect (View.loadsAt_vmem h_S1x1))
  Prog.lift (.store o (Rect.unit (s := S1x1) ![0, 0] S1x1.size inb_S1x1_S1x1_0_0) (outVal a) Finset.univ (View.stores_vmem_bits_univ h_S1x1 rfl) (.inl rfl))

/-- The body as a loop. -/
def body : Prog (TpuEff nD τ sig (Elt F) Λ₀ .tc) PUnit := do
  prologue a0 a1 a2 b0 b1 b2 q0 q1 q2 16
  let a ← stream a0 a1 a2 b0 b1 b2 q0 q1 q2 48 acc0
  let a ← drain a0 a1 a2 b0 b1 b2 q0 q1 q2 16 a
  storeOut o a

end Cert.Kernel.Loop

end
-- ==== Proof.Setup.lean ====
module

public import proofs.«01_k».proof.Proof.Gen.Kernel.Frame
public import Idealize.ShloMosaic.Lib.Pipeline.FrameSuffixR

/-!
# The launch's set-up

The operands of the body, the semaphores of its own, the arrays it copies from, and the lines around the region, as the
launch theorem for a body with copies of its own asks for them.
-/

@[expose] public section

set_option maxRecDepth 16384

noncomputable section

namespace Cert.Kernel.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option maxHeartbeats 800000 in
/-- @main around the region, at the certificate's variants `𝒱₀`: the host lines before it, the region, the host lines
    after it (`Pipeline.hmain_around`, off `main_chain`): it reduces to the region CONTINUED BY the later lines. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer that the line after the region does not write, and that is no array of the pipeline, is as the region found
it. -/
theorem kept_after (dats : (p : Fin _) → (c : Dev nD) → Dat τ (Elt F) Unit ℕ (Pipeline.UD sig nD τ) ℕ (cfgs p) c) (c : Dev nD)
    (b : Ref sig .tc) (h4 : b ≠ main_v4) (ha : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h4)),
    Pipeline.withArrays_of_ne _ c (V0 m c) _ b ha]

/-- Each window's current staging memref at point `t`, spelled as the pipeline passes it (`bodyAt0`), and its wholeness. -/
abbrev ms0_0 (t : Fin cfg0.N) : Memref sig .tc .vmem S1x1 .f32 := win0_0.stage (cfg0.slots t 0)
abbrev hs0_0 (t : Fin cfg0.N) : (ms0_0 t).IsWhole := hstage0_0 0
/-- The scratch operands: whole scoped buffers of the kernel's own, passed beside the windows. -/
abbrev scM0_0 : Memref sig .tc .vmem S16x128x8x128 .f32 := Memref.whole cc0_scratch0
abbrev scM0_1 : Memref sig .tc .vmem S16x128x8x128 .i32 := Memref.whole cc0_scratch1
abbrev scM0_2 : Memref sig .tc .vmem S16x128x8x128 .i32 := Memref.whole cc0_scratch2
/-- The operands left in HBM that the body copies into scratch itself, whole. -/
abbrev hbM0_0 : Memref sig .tc .hbm S8192x8x128 .f32 := Memref.whole main_v0
abbrev hbM0_1 : Memref sig .tc .hbm S8192x8x128 .i32 := Memref.whole main_v1
abbrev hbM0_2 : Memref sig .tc .hbm S8192x8x128 .i32 := Memref.whole main_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 48 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48] : Fin 48 → SemLoc sig) j
theorem ownSemFacts0 : Pipeline.OwnSemFacts spec0 osem0 := by decide
/-- The HBM operands the body moves, as references: unscoped, no window's array (`Pipeline.restRefs`). -/
def H0 : Finset (Ref sig .tc) := {main_v0, main_v1, main_v2}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v1) ∗ hbPt0 c hbM0_2 (V m c main_v2)) := by
  rw [BI.bigSep_eq_bigSepL_of_eq [main_v0, main_v1, main_v2] (by decide) (by decide)]; rfl

end Cert.Kernel.Loop

end
-- ==== Proof.Steps.lean ====
module

public import proofs.«01_k».proof.Proof.Loop
public import proofs.«01_k».proof.Proof.Setup

/-!
# One block: start its copies, wait for them, read them
-/

@[expose] public section

set_option maxRecDepth 16384

noncomputable section

namespace Cert.Kernel.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- The units one copy of a block adds to its semaphore. -/
abbrev credit {e : EltTy} (buf : Memref sig .tc .vmem S16x128x8x128 e) (j : ℕ) : ℕ := (slotAt buf j).view.dmaCredit

section One

variable (c : Dev nD) {e : EltTy} (x : Memref sig .tc .hbm S8192x8x128 e) (buf : Memref sig .tc .vmem S16x128x8x128 e)
  (q : DmaSems sig S16) (f : Buf (Elt F) (x.view.loc (c : Thread nD τ)))

/-- Block `b` of an operand, held at contents `f`. -/
def home (b : ℕ) : sProp 𝕄 := (srcAt x b).view.loc (c : Thread nD τ) ↦[(srcAt x b).view.set]{fullShare} f

/-- Slot `b % 16` of a ring, held at some contents. -/
def room (b : ℕ) : sProp 𝕄 :=
  iprop(∃ g : Buf (Elt F) (buf.view.loc (c : Thread nD τ)), (slotAt buf b).view.loc (c : Thread nD τ) ↦[(slotAt buf b).view.set]{fullShare} g)

/-- Slot `b % 16` of a ring, holding block `b`. -/
def full (b : ℕ) : sProp 𝕄 :=
  iprop(∃ g : Buf (Elt F) (buf.view.loc (c : Thread nD τ)), (slotAt buf b).view.loc (c : Thread nD τ) ↦[(slotAt buf b).view.set]{fullShare}
    ((slotAt buf b).view.write (Elt F) g ((srcAt x b).view.read (Elt F) f) Finset.univ))

/-- Slot `b % 16`'s semaphore at zero. -/
def idle (b : ℕ) : sProp 𝕄 := semVal ((c : Thread nD τ), SemLoc.dma (semAt q b)) 0

/-- The copy of block `b` in flight: landing it gives the slot holding the block, and the block back. -/
def flight (b : ℕ) : sProp 𝕄 :=
  iprop(Transfers.Flight countersEmb (c : Thread nD τ) (SemLoc.dma (semAt q b)) () (credit buf b)
    iprop(full c x buf f b ∗ home c x f b))

/-- Starting the copy of block `b`. -/
theorem start_one {α : Type} (b : ℕ) {h1 : (srcAt x b).view.WordExact} {h2 : (slotAt buf b).view.WordExact}
    {h3 : DmaTarget.Typed Space.hbm (SemLoc.dma (semAt q b)) (DmaTarget.here (slotAt buf b) : DmaTarget nD τ sig .tc .vmem S128x8x128 e)}
    (k : PUnit → Prog (TpuEff nD τ sig (Elt F) Λ₀ .tc) α) (Q : α → sProp 𝕄) :
    iprop(home c x f b ∗ room c buf b ∗ idle c q b)
      ⊢ iprop((flight c x buf q f b -∗ wp frame (wpE (defs₀ (F := F)) Variants.none c none) Set.univ (k ⟨⟩) Q)
        -∗ wp frame (wpE (defs₀ (F := F)) Variants.none c none) Set.univ
          (Prog.lift (.enqueueDma (srcAt x b) (.here (slotAt buf b)) (.dma (semAt q b)) h1 h2 h3) >>= k) Q) := by
  show _ ⊢ iprop(_ -∗ wp _ _ _ (.op _ k) Q)
  unfold home room idle flight
  iintro ⟨Hs, ⟨%g, Hd⟩, Hv⟩ Hk
  iapply (Transfers.wp_dmaLocal countersEmb Variants.none (c : Thread nD τ) none () (credit buf b) rfl
    (View.dmaCredit_pos _ (by decide)) subset_rfl) $$ [Hs Hd Hv]
  · isplitl [Hs]; · iexact Hs
    isplitl [Hd]; · iexact Hd
    iexact Hv
  iintro Hf
  iapply Hk
  iapply (Transfers.Flight_mono countersEmb (c : Thread nD τ) ?_) $$ Hf
  unfold full home
  iintro ⟨Hd, Hs⟩
  isplitl [Hd]
  · iexists g; iexact Hd
  iexact Hs

/-- Waiting for the copy of block `b`. -/
theorem wait_one {α : Type} (b : ℕ) {h1 : (srcAt x b).view.WordExact} {h2 : (slotAt buf b).view.WordExact} (W : Waits sig Unit) (k : PUnit → Prog (TpuEff nD τ sig (Elt F) Λ₀ .tc) α) (Q : α → sProp 𝕄) :
    iprop(flight c x buf q f b ∗ owes (c : Thread nD τ) 0 W)
      ⊢ iprop(((full c x buf f b ∗ home c x f b ∗ idle c q b ∗ ∃ W', owes (c : Thread nD τ) 0 W')
          -∗ wp frame (wpE (defs₀ (F := F)) Variants.none c none) Set.univ (k ⟨⟩) Q)
        -∗ wp frame (wpE (defs₀ (F := F)) Variants.none c none) Set.univ
          (Prog.lift (.waitDma2 (semAt q b) (srcAt x b) (slotAt buf b) h1 h2) >>= k) Q) := by
  show _ ⊢ iprop(_ -∗ wp _ _ _ (.op _ k) Q)
  unfold flight idle
  iintro ⟨Hf, HO⟩ Hk
  iapply (Transfers.wp_waitLocal countersEmb Variants.none (c : Thread nD τ) none () rfl) $$ [Hf HO]
  · isplitl [Hf]; · iexact Hf
    iexact HO
  iintro ⟨⟨Hd, Hs⟩, Hv, HO⟩
  iapply Hk
  isplitl [Hd]; · iexact Hd
  isplitl [Hs]; · iexact Hs
  isplitl [Hv]; · iexact Hv
  iexists _; iexact HO

/-- A slot holding a block, loaded, is the block with a leading axis of one. -/
theorem untile_load (b : ℕ) (g : Buf (Elt F) (buf.view.loc (c : Thread nD τ))) :
    untile (F := F) ((buf.access (slotRect b)).read (Elt F)
      ((slotAt buf b).view.write (Elt F) g ((srcAt x b).view.read (Elt F) f) Finset.univ)) = (srcAt x b).view.read (Elt F) f := by
  exact View.read_write_univ (v := (slotAt buf b).view) g ((srcAt x b).view.read (Elt F) f)

/-- Reading the slot that holds block `b`. -/
theorem load_one {α : Type} (b : ℕ) {hl : buf.view.LoadsAt (slotRect b).toLoadRect} (k : Vec F S1x128x8x128 e → Prog (TpuEff nD τ sig (Elt F) Λ₀ .tc) α) (Q : α → sProp 𝕄) :
    full c x buf f b
      ⊢ iprop((∀ v : Vec F S1x128x8x128 e, iprop(⌜untile v = (srcAt x b).view.read (Elt F) f⌝ ∗ room c buf b)
          -∗ wp frame (wpE (defs₀ (F := F)) Variants.none c none) Set.univ (k v) Q)
        -∗ wp frame (wpE (defs₀ (F := F)) Variants.none c none) Set.univ
          (Prog.lift (.load buf (slotRect b).toLoadRect hl) >>= k) Q) := by
  show _ ⊢ iprop(_ -∗ wp _ _ _ (.op _ k) Q)
  unfold full room
  iintro ⟨%g, Hd⟩ Hk
  iapply (wp_load_rect Variants.none (c : Thread nD τ) none Set.univ (m := buf) (r := slotRect b)
    (by rw [View.set_reshape])) $$ Hd
  iintro Hd
  iapply Hk
  isplitr
  · ipureintro; exact untile_load c x buf f b g
  iexists _; iexact Hd

end One

end Cert.Kernel.Loop

end
-- ==== Proof.Blocks.lean ====
module

public import proofs.«01_k».proof.Proof.Steps
public import Idealize.SL.BI.BigOpNat

/-!
# The three loops

One block is three copies.  The loops are run by induction on the number of their steps; between steps the blocks lie
in one of three states: at home, in flight, and consumed.
-/

@[expose] public section

set_option maxRecDepth 16384

noncomputable section

namespace Cert.Kernel.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- A staged block at some contents. -/
def roomOf (c : Dev nD) {e : EltTy} (M : Memref sig .tc .vmem S128x8x128 e) : sProp 𝕄 :=
  iprop(∃ g, M.view.loc (c : Thread nD τ) ↦[M.view.set]{fullShare} g)

/-- The room of a slot depends on the slot only. -/
theorem room_mod (c : Dev nD) {e : EltTy} (buf : Memref sig .tc .vmem S16x128x8x128 e) (b : ℕ) :
    (room (F := F) c buf (b + 16)) = room c buf b := by
  have key : ∀ i j (hi : ∀ a, (![i, 0, 0, 0] : Fin 4 → ℕ) a + S1x128x8x128.size a ≤ S16x128x8x128.size a)
      (hj : ∀ a, (![j, 0, 0, 0] : Fin 4 → ℕ) a + S1x128x8x128.size a ≤ S16x128x8x128.size a), i = j →
      (roomOf (F := F) c ((buf.slice (Rect.unit (s := S16x128x8x128) ![i, 0, 0, 0] S1x128x8x128.size hi)
        (fun _ => rfl)).squeeze S128x8x128 squeezes_S1x128x8x128_S128x8x128)) =
      roomOf c ((buf.slice (Rect.unit (s := S16x128x8x128) ![j, 0, 0, 0] S1x128x8x128.size hj)
        (fun _ => rfl)).squeeze S128x8x128 squeezes_S1x128x8x128_S128x8x128) := by
    rintro i _ hi hj rfl; rfl
  exact key _ _ (inb_slot _) (inb_slot _) (Nat.add_mod_right b 16)

/-- And so does its semaphore. -/
theorem idle_mod (c : Dev nD) (q : DmaSems sig S16) (b : ℕ) : (idle (F := F) c q (b + 16)) = idle c q b := by
  have key : ∀ i j (hi : ∀ a, (![i] : Fin 1 → ℕ) a + S1.size a ≤ S16.size a)
      (hj : ∀ a, (![j] : Fin 1 → ℕ) a + S1.size a ≤ S16.size a), i = j →
      ((q.slice (Rect.unit (s := S16) ![i] S1.size hi)).squeeze S_ squeezes_S1_S_).sem =
      ((q.slice (Rect.unit (s := S16) ![j] S1.size hj)).squeeze S_ squeezes_S1_S_).sem := by
    rintro i _ hi hj rfl; rfl
  have h : semAt q (b + 16) = semAt q b := key _ _ (inb_sem _) (inb_sem _) (Nat.add_mod_right b 16)
  unfold idle; rw [h]

section Three

variable (c : Dev nD) (x0 : Memref sig .tc .hbm S8192x8x128 .f32) (x1 x2 : Memref sig .tc .hbm S8192x8x128 .i32)
  (b0 : Memref sig .tc .vmem S16x128x8x128 .f32) (b1 b2 : Memref sig .tc .vmem S16x128x8x128 .i32)
  (q0 q1 q2 : DmaSems sig S16)
  (f0 : Buf (Elt F) (x0.view.loc (c : Thread nD τ))) (f1 : Buf (Elt F) (x1.view.loc (c : Thread nD τ)))
  (f2 : Buf (Elt F) (x2.view.loc (c : Thread nD τ)))

/-- Block `b` of the three operands. -/
def Home (b : ℕ) : sProp 𝕄 := iprop(home c x0 f0 b ∗ home c x1 f1 b ∗ home c x2 f2 b)

/-- Slot `b % 16` of the three rings, free. -/
def Free (b : ℕ) : sProp 𝕄 :=
  iprop((room c b0 b ∗ idle c q0 b) ∗ (room c b1 b ∗ idle c q1 b) ∗ (room c b2 b ∗ idle c q2 b))

/-- The three copies of block `b` in flight. -/
def Fly (b : ℕ) : sProp 𝕄 := iprop(flight c x0 b0 q0 f0 b ∗ flight c x1 b1 q1 f1 b ∗ flight c x2 b2 q2 f2 b)

/-- The core owes nothing, whatever it has waited for. -/
def Owes : sProp 𝕄 := iprop(∃ W, owes (c : Thread nD τ) 0 W)

theorem Free_mod (b : ℕ) : (Free (F := F) c b0 b1 b2 q0 q1 q2 (b + 16)) = Free c b0 b1 b2 q0 q1 q2 b := by
  simp only [Free, room_mod, idle_mod]

/-- The totals with block `b` added. -/
def addAt (a : Acc F) (b : ℕ) : Acc F :=
  addBlock a ((srcAt x0 b).view.read (Elt F) f0) ((srcAt x1 b).view.read (Elt F) f1) ((srcAt x2 b).view.read (Elt F) f2)

/-- The totals of the first `n` blocks. -/
def accTo : ℕ → Acc F
  | 0 => acc0
  | n + 1 => addAt c x0 x1 x2 f0 f1 f2 (accTo n) n

/-- Starting the three copies of a block whose slot is free. -/
theorem starts_spec {α : Type} (b : ℕ) (k : PUnit → Prog (TpuEff nD τ sig (Elt F) Λ₀ .tc) α) (Q : α → sProp 𝕄) :
    iprop(Home c x0 x1 x2 f0 f1 f2 b ∗ Free c b0 b1 b2 q0 q1 q2 b)
      ⊢ iprop((Fly c x0 x1 x2 b0 b1 b2 q0 q1 q2 f0 f1 f2 b -∗ wp Idealize.ShloMosaic.frame (wpE (defs₀ (F := F)) Variants.none (c : Thread nD τ) none) Set.univ
            (k ⟨⟩) Q)
        -∗ wp Idealize.ShloMosaic.frame (wpE (defs₀ (F := F)) Variants.none (c : Thread nD τ) none) Set.univ
            (starts x0 x1 x2 b0 b1 b2 q0 q1 q2 b >>= k) Q) := by
  unfold Home Free Fly starts
  simp only [bind_assoc]
  iintro ⟨⟨H0, H1, H2⟩, ⟨R0, I0⟩, ⟨R1, I1⟩, R2, I2⟩ Hk
  iapply (start_one c x0 b0 q0 f0 b) $$ [H0 R0 I0]
  · isplitl [H0]; · iexact H0
    isplitl [R0] <;> iassumption
  iintro F0
  iapply (start_one c x1 b1 q1 f1 b) $$ [H1 R1 I1]
  · isplitl [H1]; · iexact H1
    isplitl [R1] <;> iassumption
  iintro F1
  iapply (start_one c x2 b2 q2 f2 b) $$ [H2 R2 I2]
  · isplitl [H2]; · iexact H2
    isplitl [R2] <;> iassumption
  iintro F2
  iapply Hk
  isplitl [F0]; · iexact F0
  isplitl [F1] <;> iassumption

/-- Waiting for a block in flight and adding it to the totals. -/
theorem take_spec {α : Type} (b : ℕ) (a : Acc F) (k : Acc F → Prog (TpuEff nD τ sig (Elt F) Λ₀ .tc) α) (Q : α → sProp 𝕄) :
    iprop(Fly c x0 x1 x2 b0 b1 b2 q0 q1 q2 f0 f1 f2 b ∗ Owes (F := F) c)
      ⊢ iprop(((Home c x0 x1 x2 f0 f1 f2 b ∗ Free c b0 b1 b2 q0 q1 q2 b ∗ Owes (F := F) c) -∗ wp Idealize.ShloMosaic.frame (wpE (defs₀ (F := F)) Variants.none (c : Thread nD τ) none) Set.univ
            (k (addAt c x0 x1 x2 f0 f1 f2 a b)) Q)
        -∗ wp Idealize.ShloMosaic.frame (wpE (defs₀ (F := F)) Variants.none (c : Thread nD τ) none) Set.univ
            (waits x0 x1 x2 b0 b1 b2 q0 q1 q2 b >>= fun _ => consume b0 b1 b2 b a >>= k) Q) := by
  unfold Home Free Fly Owes waits consume
  simp only [bind_assoc]
  iintro ⟨⟨F0, F1, F2⟩, ⟨%W, HO⟩⟩ Hk
  iapply (wait_one c x0 b0 q0 f0 b W) $$ [F0 HO]
  · isplitl [F0] <;> iassumption
  iintro ⟨D0, H0, I0, ⟨%W1, HO⟩⟩
  iapply (wait_one c x1 b1 q1 f1 b W1) $$ [F1 HO]
  · isplitl [F1] <;> iassumption
  iintro ⟨D1, H1, I1, ⟨%W2, HO⟩⟩
  iapply (wait_one c x2 b2 q2 f2 b W2) $$ [F2 HO]
  · isplitl [F2] <;> iassumption
  iintro ⟨D2, H2, I2, ⟨%W3, HO⟩⟩
  iapply (load_one c x0 b0 f0 b) $$ D0
  iintro %v0 ⟨%e0, R0⟩
  iapply (load_one c x1 b1 f1 b) $$ D1
  iintro %v1 ⟨%e1, R1⟩
  iapply (load_one c x2 b2 f2 b) $$ D2
  iintro %v2 ⟨%e2, R2⟩
  rw [pure_bind, accStep, e0, e1, e2]
  iapply Hk
  isplitl [H0 H1 H2]
  · isplitl [H0]; · iexact H0
    isplitl [H1] <;> iassumption
  isplitr [HO]
  · isplitl [R0 I0]
    · isplitl [R0] <;> iassumption
    isplitl [R1 I1]
    · isplitl [R1] <;> iassumption
    isplitl [R2] <;> iassumption
  iexists W3; iexact HO

/-- The first copies. -/
theorem prologue_spec {α : Type} (n : ℕ) (hn : n ≤ 16) (k : PUnit → Prog (TpuEff nD τ sig (Elt F) Λ₀ .tc) α) (Q : α → sProp 𝕄) :
    iprop(bigSep (Finset.Ico (16 - n) 16) (Home c x0 x1 x2 f0 f1 f2) ∗ bigSep (Finset.Ico (16 - n) 16) (Free (F := F) c b0 b1 b2 q0 q1 q2))
      ⊢ iprop((bigSep (Finset.Ico (16 - n) 16) (Fly c x0 x1 x2 b0 b1 b2 q0 q1 q2 f0 f1 f2) -∗ wp Idealize.ShloMosaic.frame (wpE (defs₀ (F := F)) Variants.none (c : Thread nD τ) none) Set.univ
            (k ⟨⟩) Q)
        -∗ wp Idealize.ShloMosaic.frame (wpE (defs₀ (F := F)) Variants.none (c : Thread nD τ) none) Set.univ
            (prologue x0 x1 x2 b0 b1 b2 q0 q1 q2 n >>= k) Q) := by
  induction n with
  | zero =>
    simp only [prologue, pure_bind, Nat.sub_zero, Finset.Ico_self, bigSep_empty]
    iintro - Hk
    iapply Hk; iempintro
  | succ n ih =>
    have e1 : 16 - (n + 1) = 15 - n := by omega
    have e2 : 15 - n + 1 = 16 - n := by omega
    have lt : 15 - n < 16 := by omega
    rw [e1, bigSep_Ico_succ_bot lt, bigSep_Ico_succ_bot lt, bigSep_Ico_succ_bot lt, e2]
    simp only [prologue, bind_assoc]
    iintro ⟨⟨H, Hs⟩, R, Rs⟩ Hk
    iapply (starts_spec c x0 x1 x2 b0 b1 b2 q0 q1 q2 f0 f1 f2 (15 - n)) $$ [H R]
    · isplitl [H] <;> iassumption
    iintro Hf
    iapply (ih (by omega)) $$ [Hs Rs]
    · isplitl [Hs] <;> iassumption
    iintro Hfs
    iapply Hk
    isplitl [Hf] <;> iassumption

/-- The steps that start a copy. -/
theorem stream_spec {α : Type} (n : ℕ) (hn : n ≤ 48) (k : Acc F → Prog (TpuEff nD τ sig (Elt F) Λ₀ .tc) α) (Q : α → sProp 𝕄) :
    iprop(bigSep (Finset.Ico (48 - n) (64 - n)) (Fly c x0 x1 x2 b0 b1 b2 q0 q1 q2 f0 f1 f2) ∗ bigSep (Finset.Ico (64 - n) 64) (Home c x0 x1 x2 f0 f1 f2) ∗ Owes (F := F) c)
      ⊢ iprop(((bigSep (Finset.Ico (48 - n) 48) (Home c x0 x1 x2 f0 f1 f2) ∗ bigSep (Finset.Ico 48 64) (Fly c x0 x1 x2 b0 b1 b2 q0 q1 q2 f0 f1 f2) ∗ Owes (F := F) c)
          -∗ wp Idealize.ShloMosaic.frame (wpE (defs₀ (F := F)) Variants.none (c : Thread nD τ) none) Set.univ
            (k (accTo c x0 x1 x2 f0 f1 f2 48)) Q)
        -∗ wp Idealize.ShloMosaic.frame (wpE (defs₀ (F := F)) Variants.none (c : Thread nD τ) none) Set.univ
            (stream x0 x1 x2 b0 b1 b2 q0 q1 q2 n (accTo c x0 x1 x2 f0 f1 f2 (48 - n)) >>= k) Q) := by
  induction n with
  | zero =>
    simp only [stream, pure_bind, Nat.sub_zero, Finset.Ico_self, bigSep_empty]
    iintro ⟨Hf, -, HO⟩ Hk
    iapply Hk
    isplitr; · iempintro
    isplitl [Hf] <;> iassumption
  | succ n ih =>
    have e1 : 48 - (n + 1) = 47 - n := by omega
    have e2 : 47 - n + 1 = 48 - n := by omega
    have e3 : 64 - (n + 1) = 63 - n := by omega
    have e4 : 63 - n + 1 = 64 - n := by omega
    have e5 : 47 - n + 16 = 63 - n := by omega
    have e6 : accTo c x0 x1 x2 f0 f1 f2 (48 - n) = addAt c x0 x1 x2 f0 f1 f2 (accTo c x0 x1 x2 f0 f1 f2 (47 - n)) (47 - n) := by
      rw [← e2]; rfl
    rw [e1, e3, bigSep_Ico_succ_bot (show 47 - n < 63 - n by omega), bigSep_Ico_succ_bot (show 63 - n < 64 by omega),
      bigSep_Ico_succ_bot (show 47 - n < 48 by omega), e2, e4]
    simp only [stream, bind_assoc]
    iintro ⟨⟨Hf, Hfs⟩, ⟨Hh, Hhs⟩, HO⟩ Hk
    iapply (take_spec c x0 x1 x2 b0 b1 b2 q0 q1 q2 f0 f1 f2 (47 - n)) $$ [Hf HO]
    · isplitl [Hf] <;> iassumption
    iintro ⟨Hd, Hr, HO⟩
    iapply (starts_spec c x0 x1 x2 b0 b1 b2 q0 q1 q2 f0 f1 f2 (63 - n)) $$ [Hh Hr]
    · isplitl [Hh]; · iexact Hh
      rw [← e5, Free_mod]; iexact Hr
    iintro Hf
    rw [← e6]
    iapply (ih (by omega)) $$ [Hf Hfs Hhs HO]
    · isplitl [Hf Hfs]
      · rw [show 64 - n = 63 - n + 1 from e4.symm, bigSep_Ico_succ_top (show 48 - n ≤ 63 - n by omega)]
        isplitl [Hf] <;> iassumption
      isplitl [Hhs] <;> iassumption
    iintro ⟨Hhs, Hfs, HO⟩
    iapply Hk
    isplitl [Hd Hhs]
    · isplitl [Hd] <;> iassumption
    isplitl [Hfs] <;> iassumption

/-- The last steps. -/
theorem drain_spec {α : Type} (n : ℕ) (hn : n ≤ 16) (k : Acc F → Prog (TpuEff nD τ sig (Elt F) Λ₀ .tc) α) (Q : α → sProp 𝕄) :
    iprop(bigSep (Finset.Ico (64 - n) 64) (Fly c x0 x1 x2 b0 b1 b2 q0 q1 q2 f0 f1 f2) ∗ Owes (F := F) c)
      ⊢ iprop(((bigSep (Finset.Ico (64 - n) 64) (Home c x0 x1 x2 f0 f1 f2) ∗ bigSep (Finset.Ico (64 - n) 64) (Free (F := F) c b0 b1 b2 q0 q1 q2) ∗ Owes (F := F) c)
          -∗ wp Idealize.ShloMosaic.frame (wpE (defs₀ (F := F)) Variants.none (c : Thread nD τ) none) Set.univ
            (k (accTo c x0 x1 x2 f0 f1 f2 64)) Q)
        -∗ wp Idealize.ShloMosaic.frame (wpE (defs₀ (F := F)) Variants.none (c : Thread nD τ) none) Set.univ
            (drain x0 x1 x2 b0 b1 b2 q0 q1 q2 n (accTo c x0 x1 x2 f0 f1 f2 (64 - n)) >>= k) Q) := by
  induction n with
  | zero =>
    simp only [drain, pure_bind, Nat.sub_zero, Finset.Ico_self, bigSep_empty]
    iintro ⟨-, HO⟩ Hk
    iapply Hk
    isplitr; · iempintro
    isplitr; · iempintro
    iexact HO
  | succ n ih =>
    have e1 : 64 - (n + 1) = 63 - n := by omega
    have e2 : 63 - n + 1 = 64 - n := by omega
    have e6 : accTo c x0 x1 x2 f0 f1 f2 (64 - n) = addAt c x0 x1 x2 f0 f1 f2 (accTo c x0 x1 x2 f0 f1 f2 (63 - n)) (63 - n) := by
      rw [← e2]; rfl
    have lt : 63 - n < 64 := by omega
    rw [e1, bigSep_Ico_succ_bot lt, bigSep_Ico_succ_bot lt, bigSep_Ico_succ_bot lt, e2]
    simp only [drain, bind_assoc]
    iintro ⟨⟨Hf, Hfs⟩, HO⟩ Hk
    iapply (take_spec c x0 x1 x2 b0 b1 b2 q0 q1 q2 f0 f1 f2 (63 - n)) $$ [Hf HO]
    · isplitl [Hf] <;> iassumption
    iintro ⟨Hd, Hr, HO⟩
    rw [← e6]
    iapply (ih (by omega)) $$ [Hfs HO]
    · isplitl [Hfs] <;> iassumption
    iintro ⟨Hhs, Hrs, HO⟩
    iapply Hk
    isplitl [Hd Hhs]
    · isplitl [Hd] <;> iassumption
    isplitl [Hr Hrs]
    · isplitl [Hr] <;> iassumption
    iexact HO

end Three

end Cert.Kernel.Loop

end
-- ==== Proof.Body.lean ====
module

public import proofs.«01_k».proof.Proof.Blocks

/-!
# The whole body

The loops one after the other, and the store of the result.
-/

@[expose] public section

set_option maxRecDepth 16384

noncomputable section

namespace Cert.Kernel.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- The one-element array has one index. -/
theorem one_index (i j : S1x1.Idx) : i = j := by
  funext a
  apply Fin.ext
  have h : S1x1.size a = 1 := by fin_cases a <;> rfl
  have hi := (i a).isLt
  have hj := (j a).isLt
  omega

/-- A store to the one-element array is what it then holds. -/
theorem read_stored (o : Memref sig .tc .vmem S1x1 .f32) (f : o.view.ty.Contents (Elt F)) (w : FVec F S1x1 .f32) :
    o.view.read (Elt F) ((o.access (Rect.unit (s := S1x1) ![0, 0] S1x1.size inb_S1x1_S1x1_0_0)).write (Elt F) f w Finset.univ) = w := by
  have h := (o.access (Rect.unit (s := S1x1) ![0, 0] S1x1.size inb_S1x1_S1x1_0_0)).read_write_univ (Val := Elt F) f w
  funext i
  have h' := congrFun h i
  rw [← h']
  exact congrArg (o.view.read (Elt F) _) (one_index _ _)

/-- A run of naturals held in two parts. -/
theorem sep_append {a b d : ℕ} (hab : a ≤ b) (hbd : b ≤ d) (A : ℕ → sProp 𝕄) :
    bigSep (Finset.Ico a d) A = iprop(bigSep (Finset.Ico a b) A ∗ bigSep (Finset.Ico b d) A) := by
  have h := bigSep_union (Finset.Ico_disjoint_Ico_consecutive a b d) (Φ := A)
  rwa [Finset.Ico_union_Ico_eq_Ico hab hbd] at h

section Three

variable (c : Dev nD) (x0 : Memref sig .tc .hbm S8192x8x128 .f32) (x1 x2 : Memref sig .tc .hbm S8192x8x128 .i32)
  (b0 : Memref sig .tc .vmem S16x128x8x128 .f32) (b1 b2 : Memref sig .tc .vmem S16x128x8x128 .i32)
  (q0 q1 q2 : DmaSems sig S16) (o : Memref sig .tc .vmem S1x1 .f32)
  (f0 : Buf (Elt F) (x0.view.loc (c : Thread nD τ))) (f1 : Buf (Elt F) (x1.view.loc (c : Thread nD τ)))
  (f2 : Buf (Elt F) (x2.view.loc (c : Thread nD τ)))

/-- Storing the result. -/
theorem store_spec (a : Acc F) (Q : PUnit → sProp 𝕄) :
    iprop(∃ d, owns (c : Thread nD τ) o fullShare d)
      ⊢ iprop((owns (c : Thread nD τ) o fullShare (outVal a) -∗ Q ⟨⟩)
        -∗ wp Idealize.ShloMosaic.frame (wpE (defs₀ (F := F)) Variants.none (c : Thread nD τ) none) Set.univ (storeOut o a) Q) := by
  unfold owns storeOut
  iintro ⟨%d, ⟨%f, -, Ho⟩⟩ Hk
  iapply (wp_load_rect Variants.none (c : Thread nD τ) none Set.univ (m := o) (r := Rect.unit (s := S1x1) ![0, 0] S1x1.size inb_S1x1_S1x1_0_0) (View.set_slice_subset _ _)) $$ Ho
  iintro Ho
  iapply (wp_store Variants.none (c : Thread nD τ) none Set.univ (m := o) (r := Rect.unit (s := S1x1) ![0, 0] S1x1.size inb_S1x1_S1x1_0_0) (Mk := Finset.univ) (((o.access (Rect.unit (s := S1x1) ![0, 0] S1x1.size inb_S1x1_S1x1_0_0)).setOn_subset_set _).trans (View.set_slice_subset _ _))) $$ Ho
  iintro Ho
  rw [wp_ret]
  imodintro
  iapply Hk
  iexists _
  isplitr [Ho]
  · ipureintro; exact read_stored o f (outVal a)
  · iexact Ho

/-- The rings at the blocks of the last round are the rings at the blocks of the first. -/
theorem Free_last : bigSep (Finset.Ico 48 64) (Free (F := F) c b0 b1 b2 q0 q1 q2)
    = bigSep (Finset.Ico 0 16) (Free c b0 b1 b2 q0 q1 q2) := by
  rw [show Finset.Ico 48 64 = (Finset.Ico 0 16).map (addRightEmbedding 48) from by decide, bigSep_map]
  refine bigSep_congr fun g _ => ?_
  show Free c b0 b1 b2 q0 q1 q2 (g + 48) = _
  rw [show g + 48 = g + 16 + 16 + 16 by omega, Free_mod, Free_mod, Free_mod]

/-- The body: from the operands whole in blocks and the rings free, to the same with the result stored. -/
theorem body_spec (Q : PUnit → sProp 𝕄) :
    iprop(bigSep (Finset.Ico 0 64) (Home c x0 x1 x2 f0 f1 f2) ∗ bigSep (Finset.Ico 0 16) (Free (F := F) c b0 b1 b2 q0 q1 q2)
        ∗ (∃ d, owns (c : Thread nD τ) o fullShare d) ∗ Owes (F := F) c)
      ⊢ iprop(((bigSep (Finset.Ico 0 64) (Home c x0 x1 x2 f0 f1 f2) ∗ bigSep (Finset.Ico 0 16) (Free (F := F) c b0 b1 b2 q0 q1 q2)
          ∗ owns (c : Thread nD τ) o fullShare (outVal (accTo c x0 x1 x2 f0 f1 f2 64)) ∗ Owes (F := F) c) -∗ Q ⟨⟩)
        -∗ wp Idealize.ShloMosaic.frame (wpE (defs₀ (F := F)) Variants.none (c : Thread nD τ) none) Set.univ
            (body x0 x1 x2 o b0 b1 b2 q0 q1 q2) Q) := by
  rw [sep_append (show 0 ≤ 16 by decide) (show 16 ≤ 64 by decide) (Home c x0 x1 x2 f0 f1 f2)]
  unfold body
  iintro ⟨⟨H0, H1⟩, R, Ho, HO⟩ Hk
  iapply (prologue_spec c x0 x1 x2 b0 b1 b2 q0 q1 q2 f0 f1 f2 16 (by decide)) $$ [H0 R]
  · isplitl [H0] <;> iassumption
  iintro Hf
  iapply (stream_spec c x0 x1 x2 b0 b1 b2 q0 q1 q2 f0 f1 f2 48 (by decide)) $$ [Hf H1 HO]
  · isplitl [Hf]; · iexact Hf
    isplitl [H1] <;> iassumption
  iintro ⟨H1, Hf, HO⟩
  iapply (drain_spec c x0 x1 x2 b0 b1 b2 q0 q1 q2 f0 f1 f2 16 (by decide)) $$ [Hf HO]
  · isplitl [Hf] <;> iassumption
  iintro ⟨H2, R, HO⟩
  iapply (store_spec c o) $$ Ho
  iintro Ho
  iapply Hk
  isplitl [H1 H2]
  · rw [← sep_append (show 0 ≤ 16 by decide) (show 16 ≤ 64 by decide) (Home c x0 x1 x2 f0 f1 f2),
      sep_append (show 0 ≤ 48 by decide) (show 48 ≤ 64 by decide) (Home c x0 x1 x2 f0 f1 f2)]
    isplitl [H1] <;> iassumption
  isplitl [R]
  · rw [← Free_last]; iexact R
  isplitl [Ho] <;> iassumption

end Three

end Cert.Kernel.Loop

end
-- ==== Proof.Split.lean ====
module

public import proofs.«01_k».proof.Proof.Body
public import Idealize.ShloMosaic.Lib.Ring

/-!
# Buffers in blocks, rings in slots

An operand held whole is its 64 blocks; a ring held whole is its 16 slots; the launch's 48 semaphores are the three
semaphore arrays.
-/

@[expose] public section

set_option maxRecDepth 16384

noncomputable section

namespace Cert.Kernel.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- A product over the numbers below `n`, indexed by `Fin n`. -/
theorem sep_fin (n : ℕ) (A : ℕ → sProp 𝕄) : bigSep (Finset.univ : Finset (Fin n)) (fun b => A b.val) = bigSep (Finset.Ico 0 n) A := by
  have h : Finset.Ico 0 n = (Finset.univ : Finset (Fin n)).map Fin.valEmbedding := by
    ext i
    simp only [Finset.mem_Ico, Finset.mem_map, Finset.mem_univ, true_and, Fin.valEmbedding_apply, Nat.zero_le]
    exact ⟨fun h => ⟨⟨i, h⟩, rfl⟩, fun ⟨j, hj⟩ => hj ▸ j.isLt⟩
  rw [h, bigSep_map]; rfl

/-- A product over a run of sixteen numbers is one over the first sixteen. -/
theorem sep_shift (d : ℕ) (A : ℕ → sProp 𝕄) : bigSep (Finset.Ico d (d + 16)) A = bigSep (Finset.Ico 0 16) (fun b => A (d + b)) := by
  have h : Finset.Ico d (d + 16) = (Finset.Ico 0 16).map (addLeftEmbedding d) := by
    ext i
    simp only [Finset.mem_Ico, Finset.mem_map, addLeftEmbedding_apply]
    exact ⟨fun h => ⟨i - d, by omega, by omega⟩, fun ⟨j, hj, h⟩ => by omega⟩
  rw [h, bigSep_map]; rfl

/-- Images of a union are the union of the images. -/
theorem map_union {n : ℕ} {α β : Type} [DecidableEq α] [DecidableEq β] (g : α ↪ β) (K : Fin n → Finset α) :
    Finset.univ.biUnion (fun b => (K b).map g) = (Finset.univ.biUnion K).map g := by
  ext i
  simp only [Finset.mem_biUnion, Finset.mem_map, Finset.mem_univ, true_and]
  exact ⟨fun ⟨b, j, hj, h⟩ => ⟨j, ⟨b, hj⟩, h⟩, fun ⟨j, ⟨b, hj⟩, h⟩ => ⟨b, j, hj, h⟩⟩

section Blocks

variable (c : Dev nD) {e : EltTy} (x : Memref sig .tc .hbm S8192x8x128 e)

/-- The rectangle of block `b`. -/
abbrev blockRect (b : ℕ) : Rect S8192x8x128 := Rect.unit (s := S8192x8x128) ![128 * (b % 64), 0, 0] S128x8x128.size (inb_src b)

theorem block_set (b : ℕ) : (srcAt x b).view.set = (blockRect b).set.map x.view.emb := View.set_slice _ _

theorem block_disjoint (b b' : Fin 64) (h : b ≠ b') : Disjoint (blockRect b.val).set (blockRect b'.val).set :=
  Ring.lead_disjoint (s := S8192x8x128) (NB := 64) (0 : Fin 3) 128 (fun b => ![128 * (b.val % 64), 0, 0]) S128x8x128.size
    (fun b => inb_src b.val) (fun b => by show 128 * (b.val % 64) = 128 * b.val; rw [Nat.mod_eq_of_lt b.isLt]) rfl b b' h

theorem block_cover : Finset.univ.biUnion (fun b : Fin 64 => (blockRect b.val).set) = Finset.univ :=
  Ring.lead_cover (s := S8192x8x128) (NB := 64) (0 : Fin 3) 128 (fun b => ![128 * (b.val % 64), 0, 0]) S128x8x128.size
    (fun b => inb_src b.val) (fun b => by show 128 * (b.val % 64) = 128 * b.val; rw [Nat.mod_eq_of_lt b.isLt])
    (fun b a ha => by fin_cases a <;> first | exact absurd rfl ha | rfl) rfl
    (fun a ha => by fin_cases a <;> first | exact absurd rfl ha | rfl) rfl

/-- An operand held whole is its blocks. -/
theorem home_blocks (f : Buf (Elt F) (x.view.loc (c : Thread nD τ))) :
    (x.view.loc (c : Thread nD τ) ↦[x.view.set]{fullShare} f : sProp 𝕄) = bigSep (Finset.Ico 0 64) (home c x f) := by
  rw [← sep_fin]
  have hb : ∀ b : Fin 64, home (F := F) c x f b.val
      = ((x.view.loc (c : Thread nD τ)) ↦[(blockRect b.val).set.map x.view.emb]{fullShare} f : sProp 𝕄) := by
    intro b; unfold home; rw [block_set]
  simp only [hb]
  refine Ring.pointsTo_sub_blocks (ℓ := x.view.loc (c : Thread nD τ)) (fun b : Fin 64 => (blockRect b.val).set.map x.view.emb)
    (fun b b' h => (Finset.disjoint_map _).mpr (block_disjoint b b' h)) x.view.set ?_ f
  have h := congrArg (Finset.map x.view.emb) block_cover
  rw [← map_union] at h
  exact h

end Blocks

section Slots

variable (c : Dev nD) {e : EltTy} (buf : Memref sig .tc .vmem S16x128x8x128 e)

theorem slot_set (b : ℕ) : (slotAt buf b).view.set = (slotRect b).set.map buf.view.emb :=
  (View.set_reshape _ _).trans (View.set_slice _ _)

theorem slot_disjoint (b b' : Fin 16) (h : b ≠ b') : Disjoint (slotRect b.val).set (slotRect b'.val).set :=
  Ring.lead_disjoint (s := S16x128x8x128) (NB := 16) (0 : Fin 4) 1 (fun b => ![b.val % 16, 0, 0, 0]) S1x128x8x128.size
    (fun b => inb_slot b.val) (fun b => by show b.val % 16 = 1 * b.val; rw [Nat.mod_eq_of_lt b.isLt, Nat.one_mul]) rfl b b' h

theorem slot_cover : Finset.univ.biUnion (fun b : Fin 16 => (slotRect b.val).set) = Finset.univ :=
  Ring.lead_cover (s := S16x128x8x128) (NB := 16) (0 : Fin 4) 1 (fun b => ![b.val % 16, 0, 0, 0]) S1x128x8x128.size
    (fun b => inb_slot b.val) (fun b => by show b.val % 16 = 1 * b.val; rw [Nat.mod_eq_of_lt b.isLt, Nat.one_mul])
    (fun b a ha => by fin_cases a <;> first | exact absurd rfl ha | rfl) rfl
    (fun a ha => by fin_cases a <;> first | exact absurd rfl ha | rfl) rfl

theorem slot_sets_disjoint (b b' : Fin 16) (h : b ≠ b') :
    Disjoint ((slotRect b.val).set.map buf.view.emb) ((slotRect b'.val).set.map buf.view.emb) :=
  (Finset.disjoint_map _).mpr (slot_disjoint b b' h)

theorem slot_sets_cover : Finset.univ.biUnion (fun b : Fin 16 => (slotRect b.val).set.map buf.view.emb) = buf.view.set :=
  (map_union buf.view.emb (fun b : Fin 16 => (slotRect b.val).set)).trans (congrArg (Finset.map buf.view.emb) slot_cover)

theorem room_eq (b : ℕ) : (room (F := F) c buf b)
    = iprop(∃ f : Buf (Elt F) (buf.view.loc (c : Thread nD τ)), buf.view.loc (c : Thread nD τ) ↦[(slotRect b).set.map buf.view.emb]{fullShare} f) := by
  unfold room; rw [slot_set]

/-- A slot held at some contents. -/
theorem slot_some (f : Buf (Elt F) (buf.view.loc (c : Thread nD τ))) (b : ℕ) :
    (buf.view.loc (c : Thread nD τ) ↦[(slotRect b).set.map buf.view.emb]{fullShare} f : sProp 𝕄)
      ⊢ iprop(∃ f : Buf (Elt F) (buf.view.loc (c : Thread nD τ)), buf.view.loc (c : Thread nD τ) ↦[(slotRect b).set.map buf.view.emb]{fullShare} f) := by
  iintro H; iexists f; iexact H

/-- A ring held at some contents is its slots, each at some contents. -/
theorem ring_slots : (iprop(∃ f : Buf (Elt F) (buf.view.loc (c : Thread nD τ)), buf.view.loc (c : Thread nD τ) ↦[buf.view.set]{fullShare} f) : sProp 𝕄)
    ⊢ bigSep (Finset.Ico 0 16) (room (F := F) c buf) := by
  rw [← sep_fin]
  simp only [room_eq]
  iintro ⟨%f, H⟩
  rw [Ring.pointsTo_sub_blocks (ℓ := buf.view.loc (c : Thread nD τ)) (fun b : Fin 16 => (slotRect b.val).set.map buf.view.emb)
    (slot_sets_disjoint buf) buf.view.set (slot_sets_cover buf) f]
  exact bigSep_mono fun b _ => slot_some c buf f b.val

/-- And the slots, each at some contents, are the ring at some contents. -/
theorem slots_ring (f₀ : Buf (Elt F) (buf.view.loc (c : Thread nD τ))) : bigSep (Finset.Ico 0 16) (room (F := F) c buf)
    ⊢ (iprop(∃ f : Buf (Elt F) (buf.view.loc (c : Thread nD τ)), buf.view.loc (c : Thread nD τ) ↦[buf.view.set]{fullShare} f) : sProp 𝕄) := by
  have : Nonempty (Buf (Elt F) (buf.view.loc (c : Thread nD τ))) := ⟨f₀⟩
  rw [← sep_fin]
  simp only [room_eq]
  refine (bigSep_exists_pi Finset.univ (fun (b : Fin 16) (f : Buf (Elt F) (buf.view.loc (c : Thread nD τ))) =>
    (buf.view.loc (c : Thread nD τ) ↦[(slotRect b.val).set.map buf.view.emb]{fullShare} f : sProp 𝕄))).trans ?_
  iintro ⟨%fs, H⟩
  ihave H := (pointsTo_biUnion_join (ℓ := buf.view.loc (c : Thread nD τ)) Finset.univ
    (fun b : Fin 16 => (slotRect b.val).set.map buf.view.emb) fs f₀
    (fun b _ b' _ h => slot_sets_disjoint buf b b' h)) $$ H
  icases H with ⟨%g, -, H⟩
  rw [slot_sets_cover]
  iexists g; iexact H

end Slots

/-- The launch's own semaphores are the three arrays'. -/
theorem sems_arrays (c : Dev nD) :
    (Pipeline.ownSems0 (Ix := Unit) (Name := ℕ) (U := Pipeline.UD sig nD τ) (Lvl := ℕ) (Val := Elt F) (τ := τ) osem0 c : sProp 𝕄)
      = iprop(bigSep (Finset.Ico 0 16) (idle c cc0_scratch3) ∗ bigSep (Finset.Ico 0 16) (idle c cc0_scratch4)
          ∗ bigSep (Finset.Ico 0 16) (idle c cc0_scratch5)) := by
  have h : (Pipeline.ownSems0 (Ix := Unit) (Name := ℕ) (U := Pipeline.UD sig nD τ) (Lvl := ℕ) (Val := Elt F) (τ := τ) osem0 c : sProp 𝕄)
      = bigSep (Finset.Ico 0 48) (fun k => semVal ((c : Thread nD τ), if h : k < 48 then osem0 ⟨k, h⟩ else osem0 0) 0) := by
    rw [← sep_fin]
    unfold Pipeline.ownSems0
    refine bigSep_congr fun k _ => ?_
    rw [dif_pos k.isLt]
  rw [h, sep_append (show 0 ≤ 16 by decide) (show 16 ≤ 48 by decide), sep_append (show 16 ≤ 32 by decide) (show 32 ≤ 48 by decide),
    sep_shift 16, sep_shift 32]
  rfl

end Cert.Kernel.Loop

end
-- ==== Proof.LoopEq.lean ====
module

public import proofs.«01_k».proof.Proof.Loop

/-!
# The printed body is the loop

The loop is first written with each step taking what follows it as an argument, so that it unfolds to the printed
operations one after the other; that form is the printed body by computation, and the loop by induction.
-/

@[expose] public section

noncomputable section

namespace Cert.Kernel.Loop

open Idealize.ShloMosaic Idealize.ShloMosaic.TcCoe
open Idealize.SL Idealize.SL.Sem
open Cert.Kernel Cert.Kernel.Gen

variable {F : FTy → Type} [FloatOps F]

variable (a0 : Memref sig .tc .hbm S8192x8x128 .f32) (a1 a2 : Memref sig .tc .hbm S8192x8x128 .i32)
  (o : Memref sig .tc .vmem S1x1 .f32)
  (b0 : Memref sig .tc .vmem S16x128x8x128 .f32) (b1 b2 : Memref sig .tc .vmem S16x128x8x128 .i32)
  (q0 q1 q2 : DmaSems sig S16)

/-- `starts`, then `next`. -/
def startsK (k : ℕ) (next : Prog (TpuEff nD τ sig (Elt F) Λ₀ .tc) PUnit) : Prog (TpuEff nD τ sig (Elt F) Λ₀ .tc) PUnit :=
  .op (.enqueueDma (srcAt a0 k) (.here (slotAt b0 k)) (.dma (semAt q0 k)) (View.wordExact_bits rfl) ((View.wordExact_bits rfl).reshape _ _) ⟨Or.inl rfl, trivial⟩) fun _ =>
  .op (.enqueueDma (srcAt a1 k) (.here (slotAt b1 k)) (.dma (semAt q1 k)) (View.wordExact_bits rfl) ((View.wordExact_bits rfl).reshape _ _) ⟨Or.inl rfl, trivial⟩) fun _ =>
  .op (.enqueueDma (srcAt a2 k) (.here (slotAt b2 k)) (.dma (semAt q2 k)) (View.wordExact_bits rfl) ((View.wordExact_bits rfl).reshape _ _) ⟨Or.inl rfl, trivial⟩) fun _ =>
  next

/-- `waits`, then `next`. -/
def waitsK (k : ℕ) (next : Prog (TpuEff nD τ sig (Elt F) Λ₀ .tc) PUnit) : Prog (TpuEff nD τ sig (Elt F) Λ₀ .tc) PUnit :=
  .op (.waitDma2 (semAt q0 k) (srcAt a0 k) (slotAt b0 k) (View.wordExact_bits rfl) ((View.wordExact_bits rfl).reshape _ _)) fun _ =>
  .op (.waitDma2 (semAt q1 k) (srcAt a1 k) (slotAt b1 k) (View.wordExact_bits rfl) ((View.wordExact_bits rfl).reshape _ _)) fun _ =>
  .op (.waitDma2 (semAt q2 k) (srcAt a2 k) (slotAt b2 k) (View.wordExact_bits rfl) ((View.wordExact_bits rfl).reshape _ _)) fun _ =>
  next

/-- `consume`, then `next` at the totals. -/
def consumeK (k : ℕ) (a : Acc F) (next : Acc F → Prog (TpuEff nD τ sig (Elt F) Λ₀ .tc) PUnit) :
    Prog (TpuEff nD τ sig (Elt F) Λ₀ .tc) PUnit :=
  .op (.load b0 (slotRect k).toLoadRect (View.loadsAt_vmem h_S1x128x8x128)) fun x =>
  .op (.load b1 (slotRect k).toLoadRect (View.loadsAt_vmem h_S1x128x8x128)) fun s =>
  .op (.load b2 (slotRect k).toLoadRect (View.loadsAt_vmem h_S1x128x8x128)) fun y =>
  next (accStep a x s y)

/-- `prologue`, then `next`. -/
def prologueK (next : Prog (TpuEff nD τ sig (Elt F) Λ₀ .tc) PUnit) : ℕ → Prog (TpuEff nD τ sig (Elt F) Λ₀ .tc) PUnit
  | 0 => next
  | n + 1 => startsK a0 a1 a2 b0 b1 b2 q0 q1 q2 (15 - n) (prologueK next n)

/-- `stream`, then `next`. -/
def streamK (next : Acc F → Prog (TpuEff nD τ sig (Elt F) Λ₀ .tc) PUnit) : ℕ → Acc F → Prog (TpuEff nD τ sig (Elt F) Λ₀ .tc) PUnit
  | 0, a => next a
  | n + 1, a =>
    waitsK a0 a1 a2 b0 b1 b2 q0 q1 q2 (47 - n) (consumeK b0 b1 b2 (47 - n) a fun a' =>
      startsK a0 a1 a2 b0 b1 b2 q0 q1 q2 (63 - n) (streamK next n a'))

/-- `drain`, then `next`. -/
def drainK (next : Acc F → Prog (TpuEff nD τ sig (Elt F) Λ₀ .tc) PUnit) : ℕ → Acc F → Prog (TpuEff nD τ sig (Elt F) Λ₀ .tc) PUnit
  | 0, a => next a
  | n + 1, a =>
    waitsK a0 a1 a2 b0 b1 b2 q0 q1 q2 (63 - n) (consumeK b0 b1 b2 (63 - n) a fun a' => drainK next n a')

/-- `storeOut`. -/
def storeOutK (a : Acc F) : Prog (TpuEff nD τ sig (Elt F) Λ₀ .tc) PUnit :=
  .op (.load o (Rect.unit (s := S1x1) ![0, 0] S1x1.size inb_S1x1_S1x1_0_0).toLoadRect (View.loadsAt_vmem h_S1x1)) fun _ =>
  .op (.store o (Rect.unit (s := S1x1) ![0, 0] S1x1.size inb_S1x1_S1x1_0_0) (outVal a) Finset.univ (View.stores_vmem_bits_univ h_S1x1 rfl) (.inl rfl)) fun u =>
  .ret u

/-- The body as a loop, in this form. -/
def bodyK : Prog (TpuEff nD τ sig (Elt F) Λ₀ .tc) PUnit :=
  prologueK a0 a1 a2 b0 b1 b2 q0 q1 q2
    (streamK a0 a1 a2 b0 b1 b2 q0 q1 q2 (fun a => drainK a0 a1 a2 b0 b1 b2 q0 q1 q2 (storeOutK o) 16 a) 48 acc0) 16

theorem prologueK_eq (next : Prog (TpuEff nD τ sig (Elt F) Λ₀ .tc) PUnit) (n : ℕ) :
    prologueK a0 a1 a2 b0 b1 b2 q0 q1 q2 next n = prologue a0 a1 a2 b0 b1 b2 q0 q1 q2 n >>= fun _ => next := by
  induction n with
  | zero => rfl
  | succ n ih => rw [prologueK, ih, prologue, bind_assoc]; rfl

theorem streamK_eq (next : Acc F → Prog (TpuEff nD τ sig (Elt F) Λ₀ .tc) PUnit) (n : ℕ) (a : Acc F) :
    streamK a0 a1 a2 b0 b1 b2 q0 q1 q2 next n a = stream a0 a1 a2 b0 b1 b2 q0 q1 q2 n a >>= next := by
  induction n generalizing a with
  | zero => rfl
  | succ n ih =>
    simp only [streamK, ih, stream, bind_assoc]; rfl

theorem drainK_eq (next : Acc F → Prog (TpuEff nD τ sig (Elt F) Λ₀ .tc) PUnit) (n : ℕ) (a : Acc F) :
    drainK a0 a1 a2 b0 b1 b2 q0 q1 q2 next n a = drain a0 a1 a2 b0 b1 b2 q0 q1 q2 n a >>= next := by
  induction n generalizing a with
  | zero => rfl
  | succ n ih =>
    simp only [drainK, ih, drain, bind_assoc]; rfl

theorem bodyK_eq : bodyK a0 a1 a2 o b0 b1 b2 q0 q1 q2 = body (F := F) a0 a1 a2 o b0 b1 b2 q0 q1 q2 := by
  unfold bodyK body
  simp only [prologueK_eq, streamK_eq, drainK_eq]
  rfl

end Cert.Kernel.Loop

end
-- ==== Proof.BodyEq.lean ====
module

public import proofs.«01_k».proof.Proof.LoopEq

/-! # The printed body is the loop -/

@[expose] public section

noncomputable section

namespace Cert.Kernel.Loop

open Idealize.ShloMosaic Idealize.ShloMosaic.TcCoe
open Idealize.SL Idealize.SL.Sem
open Cert.Kernel Cert.Kernel.Gen

variable {F : FTy → Type} [FloatOps F]

set_option maxRecDepth 1000000 in
set_option maxHeartbeats 0 in
/-- The printed body is the loop. -/
theorem body_eq (a0 : Memref sig .tc .hbm S8192x8x128 .f32) (a1 a2 : Memref sig .tc .hbm S8192x8x128 .i32)
    (o : Memref sig .tc .vmem S1x1 .f32)
    (b0 : Memref sig .tc .vmem S16x128x8x128 .f32) (b1 b2 : Memref sig .tc .vmem S16x128x8x128 .i32)
    (q0 q1 q2 : DmaSems sig S16) (h0 : a0.IsWhole) (h1 : a1.IsWhole) (h2 : a2.IsWhole) (ho : o.IsWhole)
    (k0 : b0.IsWhole) (k1 : b1.IsWhole) (k2 : b2.IsWhole) :
    cc0_ate_loss (F := F) a0 h0 a1 h1 a2 h2 o ho b0 k0 b1 k1 b2 k2 q0 q1 q2 = body a0 a1 a2 o b0 b1 b2 q0 q1 q2 := by
  rw [← bodyK_eq]
  exact (rfl)

end Cert.Kernel.Loop

end
-- ==== Proof.Run.lean ====
module

public import proofs.«01_k».proof.Proof.Split
public import proofs.«01_k».proof.Proof.BodyEq
public import Idealize.ShloMosaic.Lib.Claim

/-!
# The kernel's run

At the compiled mesh, from any memory with zero counters, every execution of the kernel's program ends, with the
arguments unchanged, every semaphore at zero and the result holding what the totals over the 64 blocks make.
-/

@[expose] public section

set_option maxRecDepth 16384

noncomputable section

namespace Cert.Kernel.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body stores: the totals over the 64 blocks of the three operands, finished. -/
def stored (c : Dev nD) : FVec F S1x1 .f32 :=
  outVal (accTo c hbM0_0 hbM0_1 hbM0_2 (V m c main_v0) (V m c main_v1) (V m c main_v2) 64)

/-- The pipeline's data: the result's staging buffer holds `stored` after the body. -/
def dats (_ : Fin 1) (c : Dev nD) : Dat τ (Elt F) Unit ℕ (Pipeline.UD sig nD τ) ℕ cfg0 c where
  A w := V m c (Pipeline.arrRef spec0 w)
  after w t := match w with
    | ⟨0, _⟩ => stored m c
  Φ _ := Pipeline.ΦD osem0 spec0 H0 (V m) c
  q _ := fullShare
  owed _ := 0

theorem dats_A (c : Dev nD) (w : Fin cfg0.W) : (dats m 0 c).A w = V m c (Pipeline.arrRef spec0 w) := by
  dsimp only [dats]

/-- The launch's invariant, as the body takes it: the rings, the generator, the semaphores, the operands. -/
theorem inv_eq (c : Dev nD) : (Pipeline.ΦD osem0 spec0 H0 (V m) c : sProp 𝕄)
    = iprop(iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ (∃ r, prngReg c r)
      ∗ iprop(bigSep (Finset.Ico 0 16) (idle c cc0_scratch3) ∗ bigSep (Finset.Ico 0 16) (idle c cc0_scratch4)
          ∗ bigSep (Finset.Ico 0 16) (idle c cc0_scratch5))
      ∗ iprop(hbPt0 c hbM0_0 (V m c main_v0) ∗ hbPt0 c hbM0_1 (V m c main_v1) ∗ hbPt0 c hbM0_2 (V m c main_v2))) := by
  rw [Pipeline.ΦD_eq, scopedRest0_eq, sems_arrays, hbmPts0_eq]

/-- A whole operand in blocks. -/
theorem whole_blocks (c : Dev nD) {e : EltTy} (x : Memref sig .tc .hbm S8192x8x128 e) (hx : x.view.set = Finset.univ)
    (f : Buf (Elt F) (x.view.loc (c : Thread nD τ))) :
    (hbPt0 c x f : sProp 𝕄) = bigSep (Finset.Ico 0 64) (home c x f) := by
  rw [← home_blocks, hx]

/-- A whole ring in slots. -/
theorem whole_slots (c : Dev nD) {e : EltTy} (b : Memref sig .tc .vmem S16x128x8x128 e) (hb : b.view.set = Finset.univ) :
    (iprop(∃ f : Buf (Elt F) (b.view.loc (c : Thread nD τ)), (b.view.loc (c : Thread nD τ)) ↦{fullShare} f) : sProp 𝕄)
      ⊢ bigSep (Finset.Ico 0 16) (room (F := F) c b) := by
  have h := ring_slots (F := F) c b
  rwa [hb] at h

theorem slots_whole (c : Dev nD) {e : EltTy} (b : Memref sig .tc .vmem S16x128x8x128 e) (hb : b.view.set = Finset.univ)
    (f₀ : Buf (Elt F) (b.view.loc (c : Thread nD τ))) :
    bigSep (Finset.Ico 0 16) (room (F := F) c b)
      ⊢ (iprop(∃ f : Buf (Elt F) (b.view.loc (c : Thread nD τ)), (b.view.loc (c : Thread nD τ)) ↦{fullShare} f) : sProp 𝕄) := by
  have h := slots_ring (F := F) c b f₀
  rwa [hb] at h

/-- The three rings' slots and their semaphores, slot by slot. -/
theorem free_eq (c : Dev nD) (b0 : Memref sig .tc .vmem S16x128x8x128 .f32) (b1 b2 : Memref sig .tc .vmem S16x128x8x128 .i32)
    (q0 q1 q2 : DmaSems sig S16) :
    bigSep (Finset.Ico 0 16) (Free (F := F) c b0 b1 b2 q0 q1 q2)
      = iprop(iprop(bigSep (Finset.Ico 0 16) (room (F := F) c b0) ∗ bigSep (Finset.Ico 0 16) (idle c q0))
          ∗ iprop(bigSep (Finset.Ico 0 16) (room (F := F) c b1) ∗ bigSep (Finset.Ico 0 16) (idle c q1))
          ∗ iprop(bigSep (Finset.Ico 0 16) (room (F := F) c b2) ∗ bigSep (Finset.Ico 0 16) (idle c q2))) := by
  simp only [← bigSep_sep']
  rfl

/-- The three operands, block by block. -/
theorem homes_eq (c : Dev nD) (x0 : Memref sig .tc .hbm S8192x8x128 .f32) (x1 x2 : Memref sig .tc .hbm S8192x8x128 .i32)
    (f0 : Buf (Elt F) (x0.view.loc (c : Thread nD τ))) (f1 : Buf (Elt F) (x1.view.loc (c : Thread nD τ)))
    (f2 : Buf (Elt F) (x2.view.loc (c : Thread nD τ))) :
    bigSep (Finset.Ico 0 64) (Home c x0 x1 x2 f0 f1 f2)
      = iprop(bigSep (Finset.Ico 0 64) (home c x0 f0) ∗ bigSep (Finset.Ico 0 64) (home c x1 f1) ∗ bigSep (Finset.Ico 0 64) (home c x2 f2)) := by
  simp only [← bigSep_sep']
  rfl

/-- What the body is called with, -/
def pointPre (c : Dev nD) (t : Fin cfg0.N) : sProp 𝕄 :=
  iprop((dats m 0 c).Φ t.castSucc ∗ (dats m 0 c).owesAt () t.castSucc ∗ (∃ d, owns (c : Thread nD τ) (ms0_0 t) fullShare d))

/-- and what it returns. -/
def pointPost (c : Dev nD) (t : Fin cfg0.N) : sProp 𝕄 :=
  iprop((dats m 0 c).Φ t.succ ∗ (dats m 0 c).owesAt () t.succ ∗ owns (c : Thread nD τ) (ms0_0 t) fullShare (stored m c))

/-- The body at the grid's point. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  rw [body_eq]
  rw [show (dats m 0 c).Φ t.succ = Pipeline.ΦD osem0 spec0 H0 (V m) c from rfl,
    show (dats m 0 c).Φ t.castSucc = Pipeline.ΦD osem0 spec0 H0 (V m) c from rfl, inv_eq]
  unfold Dat.owesAt Pipeline.owesWithin
  rw [show (dats m 0 c).owed t.castSucc = 0 from rfl, show (dats m 0 c).owed t.succ = 0 from rfl]
  rw [whole_blocks c hbM0_0 (View.set_whole _), whole_blocks c hbM0_1 (View.set_whole _), whole_blocks c hbM0_2 (View.set_whole _)]
  iintro ⟨⟨⟨HS0, HS1, HS2⟩, Hg, ⟨Hq0, Hq1, Hq2⟩, ⟨Hh0, Hh1, Hh2⟩⟩, ⟨%W, -, HW⟩, Ho⟩
  icases HS0 with ⟨%g0, HS0⟩
  icases HS1 with ⟨%g1, HS1⟩
  icases HS2 with ⟨%g2, HS2⟩
  ihave HS0 := (whole_slots c scM0_0 (View.set_whole _)) $$ [HS0]
  · iexists g0; iexact HS0
  ihave HS1 := (whole_slots c scM0_1 (View.set_whole _)) $$ [HS1]
  · iexists g1; iexact HS1
  ihave HS2 := (whole_slots c scM0_2 (View.set_whole _)) $$ [HS2]
  · iexists g2; iexact HS2
  iapply (body_spec c hbM0_0 hbM0_1 hbM0_2 scM0_0 scM0_1 scM0_2 cc0_scratch3 cc0_scratch4 cc0_scratch5 (ms0_0 t)
    (V m c main_v0) (V m c main_v1) (V m c main_v2)) $$ [HS0 HS1 HS2 Hq0 Hq1 Hq2 Hh0 Hh1 Hh2 HW Ho]
  · isplitl [Hh0 Hh1 Hh2]
    · rw [homes_eq]
      isplitl [Hh0]; · iexact Hh0
      isplitl [Hh1] <;> iassumption
    isplitl [HS0 HS1 HS2 Hq0 Hq1 Hq2]
    · rw [free_eq]
      isplitl [HS0 Hq0]
      · isplitl [HS0] <;> iassumption
      isplitl [HS1 Hq1]
      · isplitl [HS1] <;> iassumption
      isplitl [HS2] <;> iassumption
    isplitl [Ho]; · iexact Ho
    unfold Owes
    iexists W; iexact HW
  rw [homes_eq, free_eq]
  unfold Owes
  iintro ⟨⟨Hh0, Hh1, Hh2⟩, ⟨⟨HS0, Hq0⟩, ⟨HS1, Hq1⟩, HS2, Hq2⟩, Ho, ⟨%W', HW⟩⟩
  isplitr [HW Ho]
  · isplitl [HS0 HS1 HS2]
    · isplitl [HS0]; · iapply (slots_whole c scM0_0 (View.set_whole _) g0) $$ HS0
      isplitl [HS1]; · iapply (slots_whole c scM0_1 (View.set_whole _) g1) $$ HS1
      iapply (slots_whole c scM0_2 (View.set_whole _) g2) $$ HS2
    isplitl [Hg]; · iexact Hg
    isplitl [Hq0 Hq1 Hq2]
    · isplitl [Hq0]; · iexact Hq0
      isplitl [Hq1] <;> iassumption
    isplitl [Hh0]; · iexact Hh0
    isplitl [Hh1] <;> iassumption
  isplitl [HW]
  · iexists W'; isplitr; · ipureintro; exact fun _ _ => Or.inl trivial
    iexact HW
  iexact Ho

/-- The pipeline's row of the body table is the body at the point's slots. -/
theorem row_eq (t : Fin cfg0.N) : defs₀ (F := F) .tc cfg0.body (cfg0.bodyArgs t (cfg0.slots t)) = bodyAt0 t := by
  unfold defs₀; rw [Defs.onTc_tc]

/-- The result's staging buffer may hold anything before the body. -/
theorem found_any (c : Dev nD) (t : Fin cfg0.N) :
    (iprop((dats m 0 c).Φ t.castSucc ∗ (dats m 0 c).owesAt () t.castSucc
      ∗ (∃ d, owns (c : Thread nD τ) (ms0_0 t) fullShare ((dats m 0 c).before 0 t d))) : sProp 𝕄) ⊢ pointPre m c t := by
  unfold pointPre
  iintro ⟨H1, H2, ⟨%d, H3⟩⟩
  isplitl [H1]; · iexact H1
  isplitl [H2]; · iexact H2
  iexists ((dats m 0 c).before 0 t d); iexact H3

/-- The pipeline's obligation of the body. -/
theorem obligation (c : Dev nD) : BodyObligation (dats (F := F) m 0 c) (defs₀ (F := F)) Variants.none () Set.univ := fun t => by
  rw [bigSep_W0, bigSep_W0, row_eq]
  refine triple_restated (point_sound m c t) rfl ?_ fun _ => .rfl
  exact found_any m c t

set_option backward.isDefEq.respectTransparency.types false in
set_option maxHeartbeats 800000 in
/-- The launch. -/
theorem launched : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := main_around m Variants.none) (hA := dats_A m) (hin := fun _ => .rfl) (hout := fun _ => .rfl) (hQ' := fun _ h => h)

/-- The array the pipeline writes: every word of it is what the body stored. -/
theorem array_stored (c : Dev nD) : (dats m 0 c).arrAt 0 cfg0.N = stored m c := by
  rw [show cfg0.N = 0 + 1 from rfl, Dat.arrAt]
  rw [dif_pos (show 0 < cfg0.N by decide), if_pos (flush0_0 _)]
  funext i
  have hx : ∀ a, 0 < ((cfg0.win 0).xblock (cfg0.grid.coords ⟨0, by decide⟩)).size a := by decide
  have h := ((cfg0.win 0).blk ⟨0, by decide⟩).view.write_emb_of_mem (Val := Elt F) ((dats m 0 c).arrAt 0 0)
    ((dats m 0 c).flushed 0 ⟨0, by decide⟩) (Finset.mem_univ fun a => ⟨0, hx a⟩)
  rw [show i = ((cfg0.win 0).blk ⟨0, by decide⟩).view.emb (fun a => ⟨0, hx a⟩) from one_index _ _]
  refine h.trans ?_
  exact congrArg (stored m c) (one_index _ _)

/-- The scalar the program returns. -/
def result (c : Dev nD) : FVec F S_ .f32 := shapeCast S_ (stored m c) shapeCasts_S1x1_S_

/-- What the host's tail leaves in the result. -/
theorem tail_result (c : Dev nD) :
    Pipeline.afterTail₀ cfgs (dats m) 0 (V0 m) [hostOps1] c main_v4 = result m c := by
  unfold Pipeline.afterTail₀
  rw [show ([hostOps1 (F := F)].flatten) = hostOps1 from rfl, StableHlo.after_cons, StableHlo.after_nil, StableHlo.reshape_result']
  have h := Pipeline.withArrays_arr (cfgs  0).spec (fun a b _ => Subsingleton.elim (α := Fin 1) a b) c (V0 m c) (fun w => (dats m 0 c).arrAt w (cfgs  0).N) 0
  have h' : Pipeline.withArrays (cfgs  0).spec c (V0 m c) (fun w => (dats m 0 c).arrAt w (cfgs  0).N) (Proc.devRef .tc main_v3) = stored m c :=
    h.trans (array_stored m c)
  funext i
  show shapeCast S_ (Pipeline.withArrays (cfgs  0).spec c (V0 m c) (fun w => (dats m 0 c).arrAt w (cfgs  0).N) (Proc.devRef .tc main_v3)) _ i = _
  rw [h']; rfl

/-- The kernel's run: the result, the arguments and the semaphores. -/
theorem ran : θ_run defs (onTc (τ := τ) (main (F := F))) (s₀ m ρ) (fun r =>
    (∀ c : Dev nD, r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  refine (θ_run defs _ _).mono (fun r h => ⟨fun c => ?_, h.2⟩) (launched m ρ)
  have hb := (h.1 c).2
  refine ⟨(hb main_v4 (Pipeline.mem_restRefs_of main_v4 (by decide) (by decide))).trans (tail_result m c), ?_, ?_, ?_, ?_⟩
  · exact (hb main_arg0 (Pipeline.mem_restRefs_of main_arg0 (by decide) (by decide))).trans ((kept_after m (dats m) c main_arg0 (by decide) (by decide)).trans (V_main_arg0 m c))
  · exact (hb main_arg1 (Pipeline.mem_restRefs_of main_arg1 (by decide) (by decide))).trans ((kept_after m (dats m) c main_arg1 (by decide) (by decide)).trans (V_main_arg1 m c))
  · exact (hb main_arg2 (Pipeline.mem_restRefs_of main_arg2 (by decide) (by decide))).trans ((kept_after m (dats m) c main_arg2 (by decide) (by decide)).trans (V_main_arg2 m c))
  · exact (hb main_arg3 (Pipeline.mem_restRefs_of main_arg3 (by decide) (by decide))).trans ((kept_after m (dats m) c main_arg3 (by decide) (by decide)).trans (V_main_arg3 m c))

end Cert.Kernel.Loop

end
-- ==== Proof.Same.lean ====
module

public import proofs.«01_k».proof.Proof.Run
public import proofs.«01_k».proof.Proof.Gen.KernelIdeal

/-!
# The ideal program is the same program

Over the reals the kernel's program is, statement for statement, the program of `Proof.Run`: the same body, the same
table and the same entry, so its runs are the ones proved there.
-/

@[expose] public section

set_option maxRecDepth 16384

noncomputable section

namespace Cert.Kernel.Loop

open Idealize.ShloMosaic Idealize.ShloMosaic.TcCoe
open Idealize.SL Idealize.SL.Sem
open Cert.Kernel Cert.Kernel.Gen

variable {F : FTy → Type} [FloatOps F]

set_option maxRecDepth 1000000 in
set_option maxHeartbeats 0 in
/-- The ideal program's body is the loop. -/
theorem ideal_body_eq (a0 : Memref sig .tc .hbm S8192x8x128 .f32) (a1 a2 : Memref sig .tc .hbm S8192x8x128 .i32)
    (o : Memref sig .tc .vmem S1x1 .f32) (b0 : Memref sig .tc .vmem S16x128x8x128 .f32)
    (b1 b2 : Memref sig .tc .vmem S16x128x8x128 .i32) (q0 q1 q2 : DmaSems sig S16) (h0 : a0.IsWhole) (h1 : a1.IsWhole)
    (h2 : a2.IsWhole) (ho : o.IsWhole) (k0 : b0.IsWhole) (k1 : b1.IsWhole) (k2 : b2.IsWhole) :
    (Cert.KernelIdeal.cc0_ate_loss a0 h0 a1 h1 a2 h2 o ho b0 k0 b1 k1 b2 k2 q0 q1 q2
        : Prog (TpuEff nD τ sig (Elt F) Λ₀ .tc) PUnit)
      = body a0 a1 a2 o b0 b1 b2 q0 q1 q2 := by
  rw [← bodyK_eq]
  exact (rfl)

/-- The two body tables are one. -/
theorem ideal_table₀ : (Cert.KernelIdeal.defs₀ : Defs nD τ sig (Elt F) Λ₀) = defs₀ := by
  unfold Cert.KernelIdeal.defs₀ defs₀
  congr 1
  funext l x
  match l, x with
  | 0, (t, s) => exact (ideal_body_eq ..).trans (body_eq ..).symm

/-- The two tables with the pipeline's rows are one. -/
theorem ideal_table : (Cert.KernelIdeal.defs (F := F)) = defs := by
  unfold Cert.KernelIdeal.defs defs
  exact congrArg (Pipeline.defs pcfgs) ideal_table₀

/-- The two entries are one. -/
theorem ideal_main : (Cert.KernelIdeal.main (F := F)) = main := by
  unfold Cert.KernelIdeal.main main
  exact (rfl)

end Cert.Kernel.Loop

end
-- ==== Proof.Marks.lean ====
module

public import Idealize.ShloMosaic.PureOps.Ideal.Laws
public import Idealize.ShloMosaic.Lib.IdealHost

/-!
# Marked elements and their rates

An element is marked by its label, by its output and by its sensitive attribute.  Over the reals, the marked elements are
counted, two rates are taken of the counts, and the loss is made of the gap between the two.
-/

@[expose] public section

noncomputable section

namespace Cert.Loss

open Idealize.ShloMosaic

/-- The label is one. -/
def Pos (y : BitVec 32) : Prop := y = 1#32

/-- The label is one and equals the logistic function of the output. -/
def Hit (x : EReal) (y : BitVec 32) : Prop := Pos y ∧ ((y.toInt : ℝ) : EReal) = Ideal.logistic x

/-- The sensitive attribute is zero. -/
def Prot (s : BitVec 32) : Prop := s = 0#32

open Classical in
/-- One where a statement holds, zero elsewhere. -/
def ind (p : Prop) : EReal := if p then 1 else 0

/-- A choice by a bit that decides a statement. -/
theorem choose (p : Prop) [Decidable p] (a b : EReal) :
    Scalar.select (BitVec.ofBool (decide p)) a b = if p then a else b := by
  by_cases h : p <;> simp [Scalar.select, h]

section Counting

variable {ι : Type} [Fintype ι]

open Classical in
/-- How many indices satisfy a statement. -/
def num (P : ι → Prop) : ℕ := (Finset.univ.filter P).card

/-- The sum of the indicators is the number. -/
theorem sum_ind (P : ι → Prop) : ∑ i, ind (P i) = ((num P : ℝ) : EReal) := by
  classical
  unfold ind num
  rw [Finset.sum_boole]
  rfl

theorem num_congr {P Q : ι → Prop} (h : ∀ i, P i ↔ Q i) : num P = num Q :=
  congrArg num (funext fun i => propext (h i))

/-- A number is that of the indices that also satisfy a second statement and that of those that don't. -/
theorem num_split (P Q : ι → Prop) : num P = num (fun i => P i ∧ Q i) + num (fun i => P i ∧ ¬ Q i) := by
  classical
  unfold num
  have h := Finset.card_filter_add_card_filter_not (s := Finset.univ.filter P) Q
  rw [Finset.filter_filter, Finset.filter_filter] at h
  convert h.symm

theorem num_le (P : ι → Prop) : num P ≤ Fintype.card ι := Finset.card_le_univ _

end Counting

/-- The share of `h` in `n`, which is zero when `n` is. -/
def rate (h n : ℕ) : ℝ := h / max (n : ℝ) 1

/-- The loss of four numbers: hits and misses of the protected, hits and misses of the others. -/
def loss (tp fp tn fn : ℕ) : ℝ :=
  let d := rate tn (tn + fn) - rate tp (tp + fp)
  max d 0 * max d 0 + max (-d) 0 * max (-d) 0 + max d 0 * max d 0 + max (-d) 0 * max (-d) 0

/-- The quotient of two numbers as both programs take it: guarded against a zero denominator. -/
def quot (h n : EReal) : EReal :=
  Scalar.select (BitVec.ofBool (decide (n = Ideal.ofBits .f32 0x00000000#32))) (Ideal.ofBits .f32 0x00000000#32)
    (Ideal.div h (max n (Ideal.ofBits .f32 0x3F800000#32)))

/-- Of counts it is the share. -/
theorem quot_counts (h n : ℕ) (hn : h ≤ n) : quot ((h : ℝ) : EReal) ((n : ℝ) : EReal) = ((rate h n : ℝ) : EReal) := by
  unfold quot rate
  rw [choose, Ideal.ofBits_zero_f32, Ideal.ofBits_one_f32]
  have h1 : max ((n : ℝ) : EReal) 1 = ((max (n : ℝ) 1 : ℝ) : EReal) := by
    rw [← EReal.coe_one]
    exact (EReal.coe_strictMono.monotone.map_max).symm
  have pos : (0 : ℝ) < max (n : ℝ) 1 := lt_max_of_lt_right one_pos
  split_ifs with h0
  · have : n = 0 := by
      have := EReal.coe_eq_zero.mp h0
      exact_mod_cast this
    obtain rfl : h = 0 := by omega
    simp
  · rw [h1, Ideal.div, if_neg (by exact_mod_cast pos.ne'), ← EReal.coe_inv, ← EReal.coe_mul]
    rw [div_eq_mul_inv]

end Cert.Loss

end
-- ==== Proof.Sums.lean ====
module

public import proofs.«01_k».proof.Proof.Split
public import proofs.«01_k».proof.Proof.Marks

/-!
# What the totals hold, over the reals

A total is only ever read through the sum of all its elements.  A sum along an axis and a change of shape keep that sum,
so each of the four totals is the sum, over all the blocks and all their elements, of a function of one element.
-/

@[expose] public section

set_option maxRecDepth 16384

noncomputable section

namespace Cert.Kernel.Loop

open Idealize.ShloMosaic Idealize.ShloMosaic.TcCoe
open Cert.Kernel Cert.Kernel.Gen Cert.Loss

/-- The sum of all the elements. -/
def all {s : Shape} (v : s.Idx → EReal) : EReal := ∑ i, v i

/-- A sum along axes keeps the sum of all. -/
theorem all_reduce {s t : Shape} {axes : List (Fin s.rank)} (h : s.Reduces axes t) (v : FVec Ideal s .f32)
    (acc : BitVec 32) (hφ : FKind.Formats .f32) (hacc : acc = FKind.add.neutral .f32 hφ) :
    all (s := t) (multiReduction .add axes t v acc h hφ hacc) = all v :=
  Finset.sum_fiberwise Finset.univ h.drop v

/-- A change of shape keeps it. -/
theorem all_cast {s t : Shape} (v : s.Idx → EReal) (h : t.numel = s.numel) :
    all (fun j => v (Shape.reshapeEquiv h j)) = all v :=
  Equiv.sum_comp (Shape.reshapeEquiv h) v

theorem all_add {s : Shape} (a b : FVec Ideal s .f32) : all (addf a b) = all a + all b :=
  Finset.sum_add_distrib

theorem all_addTile (a : FVec Ideal S8x128 .f32) (v : FVec Ideal S128x8x128 .f32) : all (addTile a v) = all a + all v := by
  unfold addTile
  exact (all_add ..).trans (congrArg (all a + ·) (all_reduce ..))

/-- A total's one number is the sum of all. -/
theorem total_apply (v : FVec Ideal S8x128 .f32) (j : S1x1.Idx) : total v j = all v := by
  have hj : all (total v) = total v j := by
    have : Subsingleton S1x1.Idx := ⟨fun a b => funext fun i => Fin.ext (by
      have := (a i).isLt; have := (b i).isLt
      have : S1x1.size i = 1 := by fin_cases i <;> rfl
      omega)⟩
    exact Fintype.sum_subsingleton _ j
  rw [← hj]
  unfold total
  exact (all_cast _ _).trans ((all_reduce ..).trans ((all_cast _ _).trans (all_reduce ..)))

theorem zero_tile (p : S128x8x128.Idx) : (tile (F := Ideal) 0x00000000#32) p = 0 := Ideal.ofBits_zero_f32
theorem one_tile (p : S128x8x128.Idx) : (tile (F := Ideal) 0x3F800000#32) p = 1 := Ideal.ofBits_one_f32

theorem posTile_apply (y : IVec S128x8x128 32) (p : S128x8x128.Idx) : posTile (F := Ideal) y p = ind (Pos (y p)) := by
  show Scalar.select (BitVec.ofBool (y p == 1#32)) ((tile (F := Ideal) 0x3F800000#32) p) ((tile (F := Ideal) 0x00000000#32) p) = _
  rw [zero_tile, one_tile, beq_eq_decide, choose]
  unfold ind Pos
  congr

theorem hitTile_apply (x : FVec Ideal S128x8x128 .f32) (y : IVec S128x8x128 32) (p : S128x8x128.Idx) :
    hitTile x y p = ind (Hit (x p) (y p)) := by
  show Scalar.select (BitVec.ofBool (decide ((((y p).toInt : ℝ) : EReal) = Ideal.logistic (x p)))) (posTile (F := Ideal) y p)
    ((tile (F := Ideal) 0x00000000#32) p) = _
  rw [zero_tile, choose, posTile_apply]
  unfold ind Hit
  split_ifs <;> tauto

theorem negPart_apply (s : IVec S128x8x128 32) (v : FVec Ideal S128x8x128 .f32) (q : Prop) (p : S128x8x128.Idx)
    (h : v p = ind q) : negPart s v p = ind (Prot (s p) ∧ q) := by
  show Scalar.select (BitVec.ofBool (s p == 0#32)) (v p) ((tile (F := Ideal) 0x00000000#32) p) = _
  rw [zero_tile, beq_eq_decide, choose, h]
  unfold ind Prot
  split_ifs <;> tauto

/-- The blocks are a partition: a sum over all elements is the sum of the blocks' sums. -/
theorem sum_blocks (G : S8192x8x128.Idx → EReal) :
    ∑ b ∈ Finset.range 64, ∑ p : S128x8x128.Idx, G ((blockRect b).emb p) = ∑ q, G q := by
  rw [← Fin.sum_univ_eq_sum_range (fun b => ∑ p : S128x8x128.Idx, G ((blockRect b).emb p)) 64, ← block_cover,
    Finset.sum_biUnion fun b _ b' _ h => block_disjoint b b' h]
  refine Finset.sum_congr rfl fun b _ => ?_
  rw [show (blockRect b.val).set = Finset.univ.map (blockRect b.val).emb by
    rw [← LoadRect.image_idx_univ, Finset.map_eq_image]; rfl]
  exact (Finset.sum_map Finset.univ (blockRect b.val).emb G).symm

section Totals

variable (c : Dev nD) (x : Buf (Elt Ideal) (hbM0_0.view.loc (c : Thread nD τ))) (s : Buf (Elt Ideal) (hbM0_1.view.loc (c : Thread nD τ)))
  (y : Buf (Elt Ideal) (hbM0_2.view.loc (c : Thread nD τ)))

/-- A total that grows by a tile at each block, the tile a function of the block's elements, is at the end the sum of
that function over all the elements. -/
theorem total_sum (p : Acc Ideal → FVec Ideal S8x128 .f32) (t : ℕ → FVec Ideal S128x8x128 .f32) (G : S8192x8x128.Idx → EReal)
    (h0 : p acc0 = fun _ => Ideal.ofBits .f32 0x00000000#32)
    (hs : ∀ a b, p (addAt c hbM0_0 hbM0_1 hbM0_2 x s y a b) = addTile (p a) (t b))
    (ht : ∀ b k, t b k = G ((blockRect b).emb k)) (j : S1x1.Idx) :
    total (p (accTo c hbM0_0 hbM0_1 hbM0_2 x s y 64)) j = ∑ q, G q := by
  have h : ∀ n, all (p (accTo c hbM0_0 hbM0_1 hbM0_2 x s y n)) = ∑ b ∈ Finset.range n, ∑ k : S128x8x128.Idx, G ((blockRect b).emb k) := by
    intro n
    induction n with
    | zero =>
      rw [accTo, h0, Ideal.ofBits_zero_f32]
      exact Finset.sum_const_zero
    | succ n ih =>
      rw [accTo, hs, all_addTile, ih, Finset.sum_range_succ]
      exact congrArg _ (Finset.sum_congr rfl fun k _ => ht n k)
  rw [total_apply, h, sum_blocks]

theorem pos_sum (j : S1x1.Idx) : total (accTo c hbM0_0 hbM0_1 hbM0_2 x s y 64).pos j = ∑ q, ind (Pos (y q)) :=
  total_sum c x s y Acc.pos _ (fun q => ind (Pos (y q))) rfl (fun _ _ => rfl) (fun _ k => posTile_apply _ k) j

theorem posNeg_sum (j : S1x1.Idx) :
    total (accTo c hbM0_0 hbM0_1 hbM0_2 x s y 64).posNeg j = ∑ q, ind (Prot (s q) ∧ Pos (y q)) :=
  total_sum c x s y Acc.posNeg _ (fun q => ind (Prot (s q) ∧ Pos (y q))) rfl (fun _ _ => rfl)
    (fun _ k => negPart_apply _ _ _ k (posTile_apply _ k)) j

theorem hit_sum (j : S1x1.Idx) : total (accTo c hbM0_0 hbM0_1 hbM0_2 x s y 64).hit j = ∑ q, ind (Hit (x q) (y q)) :=
  total_sum c x s y Acc.hit _ (fun q => ind (Hit (x q) (y q))) rfl (fun _ _ => rfl) (fun _ k => hitTile_apply _ _ k) j

theorem hitNeg_sum (j : S1x1.Idx) :
    total (accTo c hbM0_0 hbM0_1 hbM0_2 x s y 64).hitNeg j = ∑ q, ind (Prot (s q) ∧ Hit (x q) (y q)) :=
  total_sum c x s y Acc.hitNeg _ (fun q => ind (Prot (s q) ∧ Hit (x q) (y q))) rfl (fun _ _ => rfl)
    (fun _ k => negPart_apply _ _ _ k (hitTile_apply _ _ k)) j

end Totals

end Cert.Kernel.Loop

end
-- ==== Proof.Value.lean ====
module

public import proofs.«01_k».proof.Proof.Run
public import proofs.«01_k».proof.Proof.Sums

/-!
# What the kernel returns, over the reals

The four totals are numbers of marked elements of the three arguments; the number made of them is the loss.
-/

@[expose] public section

set_option maxRecDepth 16384

noncomputable section

namespace Cert.Kernel.Loop

open Idealize.ShloMosaic Idealize.ShloMosaic.TcCoe
open Idealize.SL Idealize.SL.Sem
open Cert.Kernel Cert.Kernel.Gen Cert.Loss

/-- The number made of four totals that hold real numbers. -/
theorem finish_apply (s1 s2 s3 s4 : FVec Ideal S1x1 .f32) (j : S1x1.Idx) (tp fp tn fn : ℕ)
    (h1 : s1 j = (((tp + fp + (tn + fn) : ℕ) : ℝ) : EReal)) (h2 : s2 j = (((tp + fp : ℕ) : ℝ) : EReal))
    (h3 : s3 j = (((tp + tn : ℕ) : ℝ) : EReal)) (h4 : s4 j = ((tp : ℝ) : EReal)) :
    finish s1 s2 s3 s4 j = ((loss tp fp tn fn : ℝ) : EReal) := by
  have e1 : s1 j - s2 j = (((tn + fn : ℕ) : ℝ) : EReal) := by
    rw [h1, h2, ← EReal.coe_sub]; congr 1; push_cast; ring
  have e2 : s3 j - s4 j = ((tn : ℝ) : EReal) := by
    rw [h3, h4, ← EReal.coe_sub]; congr 1; push_cast; ring
  have q1 : quot (s3 j - s4 j) (s1 j - s2 j) = ((rate tn (tn + fn) : ℝ) : EReal) := by
    rw [e1, e2]; exact quot_counts _ _ (by omega)
  have q2 : quot (s4 j) (s2 j) = ((rate tp (tp + fp) : ℝ) : EReal) := by
    rw [h2, h4]; exact quot_counts _ _ (by omega)
  have z : Ideal.ofBits .f32 0x00000000#32 = ((0 : ℝ) : EReal) := Ideal.ofBits_zero_f32
  have mx : ∀ a b : ℝ, max (a : EReal) (b : EReal) = ((max a b : ℝ) : EReal) := fun a b =>
    (EReal.coe_strictMono.monotone.map_max).symm
  show (max (quot (s3 j - s4 j) (s1 j - s2 j) - quot (s4 j) (s2 j)) (Ideal.ofBits .f32 0x00000000#32)
        * max (quot (s3 j - s4 j) (s1 j - s2 j) - quot (s4 j) (s2 j)) (Ideal.ofBits .f32 0x00000000#32)
      + max (Ideal.ofBits .f32 0x00000000#32 - (quot (s3 j - s4 j) (s1 j - s2 j) - quot (s4 j) (s2 j))) (Ideal.ofBits .f32 0x00000000#32)
        * max (Ideal.ofBits .f32 0x00000000#32 - (quot (s3 j - s4 j) (s1 j - s2 j) - quot (s4 j) (s2 j))) (Ideal.ofBits .f32 0x00000000#32)
      + max (quot (s3 j - s4 j) (s1 j - s2 j) - quot (s4 j) (s2 j)) (Ideal.ofBits .f32 0x00000000#32)
        * max (quot (s3 j - s4 j) (s1 j - s2 j) - quot (s4 j) (s2 j)) (Ideal.ofBits .f32 0x00000000#32)
      + max (Ideal.ofBits .f32 0x00000000#32 - (quot (s3 j - s4 j) (s1 j - s2 j) - quot (s4 j) (s2 j))) (Ideal.ofBits .f32 0x00000000#32)
        * max (Ideal.ofBits .f32 0x00000000#32 - (quot (s3 j - s4 j) (s1 j - s2 j) - quot (s4 j) (s2 j))) (Ideal.ofBits .f32 0x00000000#32) : EReal) = _
  rw [q1, q2, z]
  simp only [← EReal.coe_sub, mx, ← EReal.coe_mul, ← EReal.coe_add, zero_sub]
  rfl

section Arguments

variable (m : (ℓ : Loc nD τ sig) → Buf (Elt Ideal) ℓ) (c : Dev nD)

/-- The outputs, the sensitive attributes and the labels. -/
abbrev outs : S8388608x1.Idx → EReal := m ((c : Thread nD τ).loc main_arg1)
abbrev sens : S8388608x1.Idx → BitVec 32 := m ((c : Thread nD τ).loc main_arg2)
abbrev labs : S8388608x1.Idx → BitVec 32 := m ((c : Thread nD τ).loc main_arg3)

/-- Where the arrays that the kernel reads keep their elements in the arguments. -/
abbrev place : S8192x8x128.Idx ≃ S8388608x1.Idx := Shape.reshapeEquiv shapeCasts_S8388608x1_S8192x8x128

theorem read_outs : V m c main_v0 = fun q => outs m c (place q) := by
  simp only [V, V0, hostOps0, List.flatten_cons, List.flatten_nil, List.append_nil]
  after_results_simp
  rfl

theorem read_sens : V m c main_v1 = fun q => sens m c (place q) := by
  simp only [V, V0, hostOps0, List.flatten_cons, List.flatten_nil, List.append_nil]
  after_results_simp
  rfl

theorem read_labs : V m c main_v2 = fun q => labs m c (place q) := by
  simp only [V, V0, hostOps0, List.flatten_cons, List.flatten_nil, List.append_nil]
  after_results_simp
  rfl

/-- A sum of indicators over the kernel's arrays is a number of elements of the arguments. -/
theorem sum_place (P : S8388608x1.Idx → Prop) : ∑ q, ind (P (place q)) = ((num P : ℝ) : EReal) :=
  (Equiv.sum_comp place fun k => ind (P k)).trans (sum_ind P)

/-- The four numbers: hits and misses of the protected, hits and misses of the others. -/
def tp : ℕ := num fun k => Prot (sens m c k) ∧ Hit (outs m c k) (labs m c k)
def fp : ℕ := num fun k => (Prot (sens m c k) ∧ Pos (labs m c k)) ∧ ¬ Hit (outs m c k) (labs m c k)
def tn : ℕ := num fun k => ¬ Prot (sens m c k) ∧ Hit (outs m c k) (labs m c k)
def fn : ℕ := num fun k => (¬ Prot (sens m c k) ∧ Pos (labs m c k)) ∧ ¬ Hit (outs m c k) (labs m c k)

theorem protected_split : num (fun k => Prot (sens m c k) ∧ Pos (labs m c k)) = tp m c + fp m c := by
  rw [num_split _ fun k => Hit (outs m c k) (labs m c k)]
  exact congrArg (· + fp m c) (num_congr fun k => ⟨fun h => ⟨h.1.1, h.2⟩, fun h => ⟨⟨h.1, h.2.1⟩, h.2⟩⟩)

theorem others_split : num (fun k => ¬ Prot (sens m c k) ∧ Pos (labs m c k)) = tn m c + fn m c := by
  rw [num_split _ fun k => Hit (outs m c k) (labs m c k)]
  exact congrArg (· + fn m c) (num_congr fun k => ⟨fun h => ⟨h.1.1, h.2⟩, fun h => ⟨⟨h.1, h.2.1⟩, h.2⟩⟩)

/-- A number, by the sensitive attribute. -/
theorem split_prot (P : S8388608x1.Idx → Prop) :
    num P = num (fun k => Prot (sens m c k) ∧ P k) + num (fun k => ¬ Prot (sens m c k) ∧ P k) := by
  rw [num_split P fun k => Prot (sens m c k)]
  exact congrArg₂ (· + ·) (num_congr fun _ => and_comm) (num_congr fun _ => and_comm)

/-- What the kernel returns. -/
theorem result_apply (i : S_.Idx) : result m c i = ((loss (tp m c) (fp m c) (tn m c) (fn m c) : ℝ) : EReal) := by
  show stored m c _ = _
  unfold stored outVal
  rw [read_outs, read_sens, read_labs]
  refine finish_apply _ _ _ _ _ _ _ _ _ ?_ ?_ ?_ ?_
  · rw [← protected_split, ← others_split, ← split_prot, ← sum_place]; exact pos_sum ..
  · rw [← protected_split, ← sum_place]; exact posNeg_sum ..
  · rw [tp, tn, ← split_prot, ← sum_place]; exact hit_sum ..
  · rw [tp, ← sum_place]; exact hitNeg_sum ..

end Arguments

end Cert.Kernel.Loop

end
-- ==== Proof.Reference.lean ====
module

public import proofs.«01_k».proof.Proof.Gen.ReferenceIdeal.Run
public import proofs.«01_k».proof.Proof.Marks
public import Idealize.ShloMosaic.Lib.Pointwise
public import Idealize.ShloMosaic.Lib.IndicatorCount

/-!
# What the reference returns, over the reals

The reference counts its four masks as 32-bit words — no count overflows them — takes the two rates, and sums the squares
of the four gaps between them.
-/

@[expose] public section

set_option maxRecDepth 16384

noncomputable section

namespace Cert.ReferenceIdeal.Loss

open Cert.ReferenceIdeal Cert.ReferenceIdeal.Gen Idealize.ShloMosaic Idealize.ShloMosaic.TcCoe Cert.Loss

/-- The count of a mask, as the reference takes it. -/
def count (b : IVec S8388608x1 1) : FVec Ideal S_ .f32 :=
  sitofp .f32 (Host.reduce IntOp.addi (extui 32 b natLt_1_32) (constantI S_ 32 0#32) reducesTo_S8388608x1_S_d0_1 h_S_)

/-- It is the number of the mask's ones. -/
theorem count_apply (b : IVec S8388608x1 1) (i : S_.Idx) : count b i = ((num (fun k => b k = 1#1) : ℝ) : EReal) := by
  classical
  show (((Host.reduce IntOp.addi (extui 32 b natLt_1_32) (constantI S_ 32 0#32) reducesTo_S8388608x1_S_d0_1 h_S_ i).toInt : ℝ) : EReal) = _
  have : Std.Commutative (IntOp.addi (w := 32)) := ⟨fun a b => BitVec.add_comm a b⟩
  have : Std.Associative (IntOp.addi (w := 32)) := ⟨fun a b c => BitVec.add_assoc a b c⟩
  rw [Host.reduce_eq_fold, Finset.filter_true_of_mem fun k _ => funext fun a => a.elim0]
  have h : (Finset.univ : Finset S8388608x1.Idx).fold IntOp.addi (constantI S_ 32 0#32 (Shape.Idx.first h_S_)) (extui 32 b natLt_1_32)
      = BitVec.ofNat 32 (num fun k => b k = 1#1) := by
    refine (IndicatorCount.fold_addi_setWidth_eq_card (w := 32) b Finset.univ).trans ?_
    unfold num
    congr
  rw [h]
  have le : num (fun k => b k = 1#1) ≤ 8388608 := (num_le _).trans (by rw [Shape.card_idx]; decide)
  generalize num (fun k => b k = 1#1) = n at le ⊢
  have : (BitVec.ofNat 32 n).toInt = n := by
    have e : (BitVec.ofNat 32 n).toNat = n := by
      rw [BitVec.toNat_ofNat]; exact Nat.mod_eq_of_lt (lt_of_le_of_lt le (by norm_num))
    rw [BitVec.toInt_eq_toNat_of_lt (by rw [e]; omega), e]
  rw [this, Int.cast_natCast]

section Masks

variable (x : FVec Ideal S8388608x1 .f32) (s y : IVec S8388608x1 32)

/-- The reference's three masks. -/
def prot : IVec S8388608x1 1 := cmpi .eq s (broadcastInDim S8388608x1 ![] bcast_S_S8388608x1 (constantI S_ 32 0#32))
def pos : IVec S8388608x1 1 := cmpi .eq y (broadcastInDim S8388608x1 ![] bcast_S_S8388608x1 (constantI S_ 32 1#32))
def same : IVec S8388608x1 1 :=
  cmpf .oeq (sitofp .f32 y) (Host.divf (broadcastInDim S8388608x1 ![] bcast_S_S8388608x1 (constant S_ .f32 0x3F800000#32))
    (addf (broadcastInDim S8388608x1 ![] bcast_S_S8388608x1 (constant S_ .f32 0x3F800000#32)) (Host.exp (Host.negf x))))

theorem prot_apply (k : S8388608x1.Idx) [Decidable (Prot (s k))] : prot s k = BitVec.ofBool (decide (Prot (s k))) := by
  show BitVec.ofBool (s k == 0#32) = _
  rw [beq_eq_decide]; unfold Prot; congr

theorem pos_apply (k : S8388608x1.Idx) [Decidable (Pos (y k))] : pos y k = BitVec.ofBool (decide (Pos (y k))) := by
  show BitVec.ofBool (y k == 1#32) = _
  rw [beq_eq_decide]; unfold Pos; congr

theorem same_apply (k : S8388608x1.Idx) [Decidable ((((y k).toInt : ℝ) : EReal) = Ideal.logistic (x k))] :
    same x y k = BitVec.ofBool (decide ((((y k).toInt : ℝ) : EReal) = Ideal.logistic (x k))) := by
  show BitVec.ofBool (decide ((((y k).toInt : ℝ) : EReal)
    = Ideal.div (Ideal.ofBits .f32 0x3F800000#32) (Ideal.ofBits .f32 0x3F800000#32 + Ideal.exp (-(x k))))) = _
  rw [Ideal.ofBits_one_f32]
  unfold Ideal.logistic
  congr

/-- A conjunction of three bits that decide statements. -/
theorem and_bits (p q r : Prop) [Decidable p] [Decidable q] [Decidable r] :
    IntOp.andi (IntOp.andi (BitVec.ofBool (decide p)) (BitVec.ofBool (decide q))) (BitVec.ofBool (decide r)) = 1#1 ↔ p ∧ q ∧ r := by
  by_cases p <;> by_cases q <;> by_cases r <;> simp_all [IntOp.andi]

/-- The complement of a bit that decides a statement. -/
theorem not_bit (p : Prop) [Decidable p] : ~~~(BitVec.ofBool (decide p)) = BitVec.ofBool (decide (¬ p)) := by
  by_cases p <;> simp_all

theorem hits (k : S8388608x1.Idx) : andi (andi (prot s) (same x y)) (pos y) k = 1#1 ↔ Prot (s k) ∧ Hit (x k) (y k) := by
  classical
  show IntOp.andi (IntOp.andi (prot s k) (same x y k)) (pos y k) = 1#1 ↔ _
  rw [prot_apply, same_apply, pos_apply, and_bits]; unfold Hit; tauto

theorem misses (k : S8388608x1.Idx) :
    andi (andi (prot s) (noti (same x y))) (pos y) k = 1#1 ↔ (Prot (s k) ∧ Pos (y k)) ∧ ¬ Hit (x k) (y k) := by
  classical
  show IntOp.andi (IntOp.andi (prot s k) (~~~(same x y k))) (pos y k) = 1#1 ↔ _
  rw [prot_apply, same_apply, pos_apply, not_bit, and_bits]; unfold Hit; tauto

theorem other_hits (k : S8388608x1.Idx) :
    andi (andi (noti (prot s)) (same x y)) (pos y) k = 1#1 ↔ ¬ Prot (s k) ∧ Hit (x k) (y k) := by
  classical
  show IntOp.andi (IntOp.andi (~~~(prot s k)) (same x y k)) (pos y k) = 1#1 ↔ _
  rw [prot_apply, same_apply, pos_apply, not_bit, and_bits]; unfold Hit; tauto

theorem other_misses (k : S8388608x1.Idx) :
    andi (andi (noti (prot s)) (noti (same x y))) (pos y) k = 1#1 ↔ (¬ Prot (s k) ∧ Pos (y k)) ∧ ¬ Hit (x k) (y k) := by
  classical
  show IntOp.andi (IntOp.andi (~~~(prot s k)) (~~~(same x y k))) (pos y k) = 1#1 ↔ _
  rw [prot_apply, same_apply, pos_apply, not_bit, not_bit, and_bits]; unfold Hit; tauto

end Masks

/-- A rate of hits `a` and misses `b`, as the reference takes it. -/
def share (a b : FVec Ideal S_ .f32) : FVec Ideal S_ .f32 :=
  select (cmpf .oeq (addf a b) (constant S_ .f32 0x00000000#32)) (id (constant S_ .f32 0x00000000#32))
    (Host.divf a (maximumf (addf a b) (constant S_ .f32 0x3F800000#32)))

theorem share_apply (a b : FVec Ideal S_ .f32) (i : S_.Idx) (h f : ℕ) (ha : a i = ((h : ℝ) : EReal)) (hb : b i = ((f : ℝ) : EReal)) :
    share a b i = ((rate h (h + f) : ℝ) : EReal) := by
  show quot (a i) (a i + b i) = _
  rw [ha, hb, ← EReal.coe_add, ← Nat.cast_add]
  exact quot_counts _ _ (by omega)

/-- The three means: the rate of the others, and twice that of the protected. -/
def means (u v : FVec Ideal S_ .f32) : FVec Ideal S3 .f32 :=
  concatenate S3 0 [⟨S1, broadcastInDim S1 ![] bcast_S_S1 u⟩, ⟨S1, broadcastInDim S1 ![] bcast_S_S1 v⟩,
    ⟨S1, broadcastInDim S1 ![] bcast_S_S1 v⟩] concatenates_S1_S1_S1_S3_d0

/-- The four gaps. -/
def gaps (t : FVec Ideal S3 .f32) : FVec Ideal S4 .f32 :=
  maximumf (subf (Host.dotGeneral dot_S4x3_S3_S4_1_0_0_n_n_n none
      (fun i => FloatOps.ofBits .f32 (lit0 (S4x3.rowMajor i)) : FVec Ideal S4x3 .f32) t)
    (broadcastInDim S4 ![] bcast_S_S4 (constant S_ .f32 0x00000000#32))) (broadcastInDim S4 ![] bcast_S_S4 (constant S_ .f32 0x00000000#32))

/-- The sum of their squares. -/
def squares (g : FVec Ideal S4 .f32) : FVec Ideal S_ .f32 :=
  mulf (constant S_ .f32 0x3F800000#32) (Host.reduceAdd (mulf g g) (constant S_ .f32 0x00000000#32) reducesTo_S4_S_d0 h_S_)

theorem squares_apply (g : FVec Ideal S4 .f32) (i : S_.Idx) : squares g i = ∑ k : Fin 4, g (ix1 k) * g (ix1 k) := by
  unfold squares
  simp only [pointwise, zero_add, one_mul]

theorem means_apply (u v : FVec Ideal S_ .f32) (l : Fin 3) : means u v (ix1 l) = if l = 0 then u ix0 else v ix0 := by
  unfold means
  fin_cases l <;> simp [pointwise]

theorem ofBits_neg_one : Ideal.ofBits .f32 0xBF800000#32 = -1 := by
  simp [Ideal.ofBits, Ideal.ieee, -EReal.coe_mul]; norm_num

theorem gaps_apply (t : FVec Ideal S3 .f32) (k : Fin 4) :
    gaps t (ix1 k) = max (∑ l : Fin 3, Ideal.ofBits .f32 (lit0 (S4x3.rowMajor (ix2 k l))) * t (ix1 l)) 0 := by
  unfold gaps
  simp only [pointwise, zero_add, sub_zero]

/-- The rows of coefficients: one, zero and minus one, or their negatives. -/
theorem coefficients (k : Fin 4) :
    lit0 (S4x3.rowMajor (ix2 k 0)) = (if k = 0 ∨ k = 2 then 0x3F800000#32 else 0xBF800000#32)
      ∧ lit0 (S4x3.rowMajor (ix2 k 1)) = 0x00000000#32
      ∧ lit0 (S4x3.rowMajor (ix2 k 2)) = (if k = 0 ∨ k = 2 then 0xBF800000#32 else 0x3F800000#32) := by
  fin_cases k <;> exact ⟨rfl, rfl, rfl⟩

/-- With real rates, a gap is the difference of the two rates, cut at zero; its sign alternates. -/
theorem gap_real (u v : FVec Ideal S_ .f32) (a b : ℝ) (hu : u ix0 = (a : EReal)) (hv : v ix0 = (b : EReal)) (k : Fin 4) :
    gaps (means u v) (ix1 k) = ((max (if k = 0 ∨ k = 2 then a - b else -(a - b)) 0 : ℝ) : EReal) := by
  have mx : ∀ a : ℝ, max (a : EReal) 0 = ((max a 0 : ℝ) : EReal) := fun a =>
    (EReal.coe_strictMono.monotone.map_max (a := a) (b := 0)).symm
  have even : (1 : EReal) * a + 0 * b + -1 * b = ((a - b : ℝ) : EReal) := by
    rw [one_mul, zero_mul, add_zero, neg_one_mul, ← EReal.coe_neg, ← EReal.coe_add]; rfl
  have odd : (-1 : EReal) * a + 0 * b + 1 * b = ((-(a - b) : ℝ) : EReal) := by
    rw [one_mul, zero_mul, add_zero, neg_one_mul, ← EReal.coe_neg, ← EReal.coe_add]; congr 1; ring
  rw [gaps_apply, ← mx, Fin.sum_univ_three, means_apply, means_apply, means_apply, if_pos rfl, if_neg (by decide), if_neg (by decide),
    hu, hv, (coefficients k).1, (coefficients k).2.1, (coefficients k).2.2]
  congr 1
  by_cases h : k = 0 ∨ k = 2
  · rw [if_pos h, if_pos h, if_pos h, Ideal.ofBits_one_f32, Ideal.ofBits_zero_f32, ofBits_neg_one, even]
  · rw [if_neg h, if_neg h, if_neg h, Ideal.ofBits_one_f32, Ideal.ofBits_zero_f32, ofBits_neg_one, odd]

/-- The reference's term, by its parts. -/
def whole (x : FVec Ideal S8388608x1 .f32) (s y : IVec S8388608x1 32) : FVec Ideal S_ .f32 :=
  squares (gaps (means
    (share (count (andi (andi (noti (prot s)) (same x y)) (pos y))) (count (andi (andi (noti (prot s)) (noti (same x y))) (pos y))))
    (share (count (andi (andi (prot s) (same x y)) (pos y))) (count (andi (andi (prot s) (noti (same x y))) (pos y))))))

theorem res_eq (m : (ℓ : Loc nD τ sig) → Buf (Elt Ideal) ℓ) (c : Dev nD) :
    Value.res_out0 m c = whole (m ((c.tc : Thread nD τ).loc main_arg1)) (m ((c.tc : Thread nD τ).loc main_arg2))
      (m ((c.tc : Thread nD τ).loc main_arg3)) := rfl

/-- What the reference returns. -/
theorem whole_apply (x : FVec Ideal S8388608x1 .f32) (s y : IVec S8388608x1 32) (i : S_.Idx) :
    whole x s y i = ((loss (num fun k => Prot (s k) ∧ Hit (x k) (y k)) (num fun k => (Prot (s k) ∧ Pos (y k)) ∧ ¬ Hit (x k) (y k))
      (num fun k => ¬ Prot (s k) ∧ Hit (x k) (y k)) (num fun k => (¬ Prot (s k) ∧ Pos (y k)) ∧ ¬ Hit (x k) (y k)) : ℝ) : EReal) := by
  have hu := share_apply _ _ ix0 _ _ (count_apply (andi (andi (noti (prot s)) (same x y)) (pos y)) ix0)
    (count_apply (andi (andi (noti (prot s)) (noti (same x y))) (pos y)) ix0)
  have hv := share_apply _ _ ix0 _ _ (count_apply (andi (andi (prot s) (same x y)) (pos y)) ix0)
    (count_apply (andi (andi (prot s) (noti (same x y))) (pos y)) ix0)
  rw [num_congr (other_hits x s y), num_congr (other_misses x s y)] at hu
  rw [num_congr (hits x s y), num_congr (misses x s y)] at hv
  unfold whole loss
  rw [squares_apply]
  simp only [gap_real _ _ _ _ hu hv, Fin.sum_univ_four, ← EReal.coe_mul, ← EReal.coe_add]
  rfl

end Cert.ReferenceIdeal.Loss

end
-- ==== Proof.lean ====
module

public import proofs.«01_k».proof.Defs
public import proofs.«01_k».proof.Proof.Same
public import proofs.«01_k».proof.Proof.Value
public import proofs.«01_k».proof.Proof.Reference
public import proofs.«01_k».proof.Proof.Gen.ReferenceIdeal
public import proofs.«01_k».proof.Proof.Gen.ReferenceIdeal.Run
public import Idealize.ShloMosaic.Lib.Quiescent

/-!
# The claims

The kernel's runs, as printed and over the reals; the reference's; and that the two return one number.
-/

@[expose] public section

noncomputable section

namespace Cert.Proof

open Idealize.ShloMosaic Idealize.ShloMosaic.TcCoe Idealize.SL.Sem Cert.Kernel

/-- The kernel over the reals, from any memory. -/
theorem ran_ideal (m : (ℓ : Loc nD τ sig) → Buf (Elt Ideal) ℓ) (g : Dev nD → PrngReg) :
    θ_run (Cert.KernelIdeal.defs (F := Ideal)) (onTc (τ := τ) (Cert.KernelIdeal.main (F := Ideal))) ⟨m, fun _ => 0, g⟩ (fun r =>
      (∀ c : Dev nD, r.2.mem ((c : Thread nD τ).loc main_v4) = Loop.result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) := by
  rw [Loop.ideal_table, Loop.ideal_main]
  exact Loop.ran (F := Ideal) m g

theorem kernel_runs : Cert.quiescent_Kernel := fun m g _ =>
  (θ_run _ _ _).mono (fun r h => ⟨fun c => (h.1 c).2, h.2⟩) (Loop.ran (F := Bits) m g)

theorem kernel_runs_ideal : Cert.quiescent_KernelIdeal := fun m g _ =>
  (θ_run _ _ _).mono (fun r h => ⟨fun c => (h.1 c).2, h.2⟩) (ran_ideal m g)

theorem reference_runs : Cert.quiescent_ReferenceIdeal := fun m g _ =>
  (θ_run _ _ _).mono (fun r h => ⟨fun c => (h c).2, sem_eq_zero_of_no_sems (by decide) r.2⟩) (Cert.ReferenceIdeal.Value.run m g)

/-- From memories that agree on the arguments, the reference's number is the kernel's. -/
theorem one_number (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3)) :
    Cert.ReferenceIdeal.Value.res_out0 m' c = Loop.result m c := by
  rw [Cert.ReferenceIdeal.Loss.res_eq, h1, h2, h3]
  funext i
  exact (Cert.ReferenceIdeal.Loss.whole_apply _ _ _ i).trans (Loop.result_apply m c i).symm

theorem one_value : Cert.algebraic_KernelIdeal_ReferenceIdeal := fun m g m' g' _ same =>
  ⟨Loop.result m, (θ_run _ _ _).mono (fun r h => h.1) (ran_ideal m g),
    (θ_run _ _ _).mono (fun r h c => ⟨(h c).1.trans (one_number m m' c (same c).2.1 (same c).2.2.1 (same c).2.2.2), (h c).2⟩)
      (Cert.ReferenceIdeal.Value.run m' g')⟩

theorem claim : Cert.Claim :=
  ⟨Cert.Kernel.Gen.facts, Cert.KernelIdeal.Gen.facts, Cert.ReferenceIdeal.Gen.facts,
    kernel_runs, kernel_runs_ideal, reference_runs, trivial, one_value⟩

end Cert.Proof

end
